-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_groups_uniform [hPre_groups_uniform : Cert.Pre_groups_uniform.Facts] (m : (ℓ : Loc Cert.KernelIdeal.nD Cert.KernelIdeal.τ Cert.KernelIdeal.sig) → Buf (Elt Ideal) ℓ) : Prop :=
  ∀ c : Dev Cert.KernelIdeal.nD,
    (Cert.Pre_groups_uniform.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_uniform [hPre_groups_uniform : Cert.Pre_groups_uniform.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_uniform.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_groups_uniform [hKernelIdeal : Cert.KernelIdeal.Facts] [hPre_groups_uniform : Cert.Pre_groups_uniform.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_uniform m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_groups_uniform [hReferenceIdeal : Cert.ReferenceIdeal.Facts] [hPre_groups_uniform : Cert.Pre_groups_uniform.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_uniform m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_groups_uniform [hKernelIdeal : Cert.KernelIdeal.Facts] [hReferenceIdeal : Cert.ReferenceIdeal.Facts] [hPre_groups_uniform : Cert.Pre_groups_uniform.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_uniform m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_groups_uniform : Cert.Pre_groups_uniform.Facts),
    quiescent_Kernel (hKernel := hKernel)
    ∧ quiescent_KernelIdeal (hKernelIdeal := hKernelIdeal)
    ∧ quiescent_KernelIdeal_pre_groups_uniform (hKernelIdeal := hKernelIdeal) (hPre_groups_uniform := hPre_groups_uniform)
    ∧ quiescent_ReferenceIdeal (hReferenceIdeal := hReferenceIdeal)
    ∧ quiescent_ReferenceIdeal_pre_groups_uniform (hReferenceIdeal := hReferenceIdeal) (hPre_groups_uniform := hPre_groups_uniform)
    ∧ preserves_Kernel_KernelIdeal
    ∧ algebraic_KernelIdeal_ReferenceIdeal_pre_groups_uniform (hKernelIdeal := hKernelIdeal) (hReferenceIdeal := hReferenceIdeal) (hPre_groups_uniform := hPre_groups_uniform)
-- ==== Pre_groups_uniform.lean ====
abbrev S16x4096x1024 : Shape := ⟨3, ![16, 4096, 1024]⟩
abbrev S16x64 : Shape := ⟨2, ![16, 64]⟩
abbrev S_ : Shape := ⟨0, ![]⟩

class Facts : Prop where
  bcast_S_S16x64 : S_.BroadcastsInDim S16x64 (![] : Fin 0 → Fin S16x64.rank)
  reducesTo_S16x64_S_d0_1 : S16x64.ReducesTo [0, 1] S_
  h_S_ : 0 < S_.numel

variable [Facts]

def fn {F : FTy → Type} [FloatOps F] (main_arg0 : FVec F S16x4096x1024 .f32) (main_arg1 : IVec S16x64 32) : IVec S_ 1 :=
  let main_c : IVec S_ 32 := constantI S_ 32 64#32
  let main_v0 : IVec S16x64 32 := broadcastInDim S16x64 ![] bcast_S_S16x64 main_c
  let main_v1 : IVec S16x64 1 := cmpi .eq main_arg1 main_v0
  let main_c_0 : IVec S_ 1 := constantI S_ 1 1#1
  let main_v2 : IVec S_ 1 := (fun x v => Host.reduce IntOp.andi x v reducesTo_S16x64_S_d0_1 h_S_) main_v1 main_c_0
  main_v2
-- ==== Kernel.lean ====
abbrev S16x4096x1024 : Shape := ⟨3, ![16, 4096, 1024]⟩
abbrev S16x64 : Shape := ⟨2, ![16, 64]⟩
abbrev S1024 : Shape := ⟨1, ![1024]⟩
abbrev S_ : Shape := ⟨0, ![]⟩
abbrev S1024x1 : Shape := ⟨2, ![1024, 1]⟩
abbrev S1024x16 : Shape := ⟨2, ![1024, 16]⟩
abbrev S65536x1024 : Shape := ⟨2, ![65536, 1024]⟩
abbrev S1024x1024 : Shape := ⟨2, ![1024, 1024]⟩
abbrev S16x1024 : Shape := ⟨2, ![16, 1024]⟩
abbrev S32x16 : Shape := ⟨2, ![32, 16]⟩
abbrev S1x16 : Shape := ⟨2, ![1, 16]⟩
abbrev S16 : Shape := ⟨1, ![16]⟩
abbrev S1x1024 : Shape := ⟨2, ![1, 1024]⟩
abbrev S16x64x1024 : Shape := ⟨3, ![16, 64, 1024]⟩

abbrev nBuf : Table → Nat
  | .hbm => 14
  | .local .scVector .vmem => 6
  | _ => 0

abbrev bufTy : (tb : Table) → Fin (nBuf tb) → BufTy
  | .hbm, ⟨0, _⟩ => ⟨S16x4096x1024, .f32⟩
  | .hbm, ⟨1, _⟩ => ⟨S16x64, .i32⟩
  | .hbm, ⟨2, _⟩ => ⟨S1024, .i32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S1024x1, .f32⟩
  | .hbm, ⟨8, _⟩ => ⟨S1024x16, .f32⟩
  | .hbm, ⟨9, _⟩ => ⟨S65536x1024, .f32⟩
  | .hbm, ⟨10, _⟩ => ⟨S1024x1024, .f32⟩
  | .hbm, ⟨11, _⟩ => ⟨S16x64x1024, .f32⟩
  | .hbm, ⟨12, _⟩ => ⟨S_, .i32⟩
  | .hbm, ⟨13, _⟩ => ⟨S16, .i32⟩
  | .local .scVector .vmem, ⟨0, _⟩ => ⟨S16x1024, .f32⟩
  | .local .scVector .vmem, ⟨1, _⟩ => ⟨S16x1024, .f32⟩
  | .local .scVector .vmem, ⟨2, _⟩ => ⟨S16x1024, .f32⟩
  | .local .scVector .vmem, ⟨3, _⟩ => ⟨S16x1024, .f32⟩
  | .local .scVector .vmem, ⟨4, _⟩ => ⟨S1024, .f32⟩
  | .local .scVector .vmem, ⟨5, _⟩ => ⟨S32x16, .f32⟩
  | _, _ => ⟨S16x4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v6_scv : Ref sig .scVector := ⟨.hbm, 9, rfl⟩
abbrev main_v5_scv : Ref sig .scVector := ⟨.hbm, 8, rfl⟩
abbrev main_v7_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_15_r0 : BitVec 32 := 0#32
  ![v2.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c64_i32 : BitVec 32 := 64#32
  let v3 : BitVec 32 := Scalar.muli v2 c64_i32
  let v4 : BitVec 32 := Scalar.addi v3 c0_i32
  let c0_i32_0 : BitVec 32 := 0#32
  ![v4.toNat, 0]
@[reducible] def k0_t1_loop : Scf.Loop 32 :=
  let c0_i32_10 : BitVec 32 := 0#32
  let c32_i32_11 : BitVec 32 := 32#32
  let v16 : BitVec 32 := Scalar.addi c0_i32_10 c32_i32_11
  let c1_i32 : BitVec 32 := 1#32
  ⟨c0_i32_10, v16, c1_i32⟩
def k0_off3 (k0_t1 : Fin k0_t1_loop.trips) : Fin 2 → Nat :=
  let c0_i32_10 : BitVec 32 := 0#32
  let c1_i32 : BitVec 32 := 1#32
  let arg16 : BitVec 32 := Scf.iv c0_i32_10 c1_i32 k0_t1
  let v23 : Index := Scalar.indexCast arg16
  let c0 : Index := 0#32
  ![v23.toNat, 0]
def k0_cond1 (k0_t1 : Fin k0_t1_loop.trips) : BitVec 1 :=
  let c0_i32_10 : BitVec 32 := 0#32
  let c1_i32 : BitVec 32 := 1#32
  let arg16 : BitVec 32 := Scf.iv c0_i32_10 c1_i32 k0_t1
  let c0_i32_16 : BitVec 32 := 0#32
  let v26 : BitVec 1 := Scalar.cmpi .sgt arg16 c0_i32_16
  let v27 : BitVec 32 := Scalar.extui v26
  let c0_i32_17 : BitVec 32 := 0#32
  let v28 : BitVec 1 := Scalar.cmpi .ne v27 c0_i32_17
  v28

def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_59 : BitVec 32 := 0#32
  ![v2.toNat, 0]
def k0_off5 (i : grid0.Coords) (k0_t1 : Fin k0_t1_loop.trips) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c64_i32 : BitVec 32 := 64#32
  let v3 : BitVec 32 := Scalar.muli v2 c64_i32
  let c0_i32_10 : BitVec 32 := 0#32
  let c1_i32 : BitVec 32 := 1#32
  let arg16 : BitVec 32 := Scf.iv c0_i32_10 c1_i32 k0_t1
  let c64_i32_15 : BitVec 32 := 64#32
  let v21 : BitVec 32 := Scalar.muli arg16 c64_i32_15
  let v22 : BitVec 32 := Scalar.addi v3 v21
  let v29 : BitVec 32 := Scalar.addi v22 c0_i32_18
  let c0_i32_19 : BitVec 32 := 0#32
  ![v29.toNat, 0]
@[reducible] def k0_t2_loop : Scf.Loop 32 :=
  let c0_i32_22 : BitVec 32 := 0#32
  let c64_i32_23 : BitVec 32 := 64#32
  let v32 : BitVec 32 := Scalar.addi c0_i32_22 c64_i32_23
  let c1_i32_24 : BitVec 32 := 1#32
  ⟨c0_i32_22, v32, c1_i32_24⟩
def k0_off6 (k0_t2 : Fin k0_t2_loop.trips) : Fin 2 → Nat :=
  let c0_i32_60 : BitVec 32 := 0#32
  let v63 : Index := Scalar.indexCast c0_i32_60
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v64 : Index := Scalar.indexCast v62
  ![0, v64.toNat]
def k0_off7 (k0_t2 : Fin k0_t2_loop.trips) : Fin 2 → Nat :=
  let c1_i32_61 : BitVec 32 := 1#32
  let v67 : Index := Scalar.indexCast c1_i32_61
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v68 : Index := Scalar.indexCast v62
  ![1, v68.toNat]
def k0_off8 (k0_t2 : Fin k0_t2_loop.trips) : Fin 2 → Nat :=
  let c2_i32_62 : BitVec 32 := 2#32
  let v71 : Index := Scalar.indexCast c2_i32_62
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v72 : Index := Scalar.indexCast v62
  ![2, v72.toNat]
def k0_off9 (k0_t2 : Fin k0_t2_loop.trips) : Fin 2 → Nat :=
  let c3_i32 : BitVec 32 := 3#32
  let v75 : Index := Scalar.indexCast c3_i32
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v76 : Index := Scalar.indexCast v62
  ![3, v76.toNat]
def k0_off10 (k0_t2 : Fin k0_t2_loop.trips) : Fin 2 → Nat :=
  let c4_i32 : BitVec 32 := 4#32
  let v79 : Index := Scalar.indexCast c4_i32
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v80 : Index := Scalar.indexCast v62
  ![4, v80.toNat]
def k0_off11 (k0_t2 : Fin k0_t2_loop.trips) : Fin 2 → Nat :=
  let c5_i32 : BitVec 32 := 5#32
  let v83 : Index := Scalar.indexCast c5_i32
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v84 : Index := Scalar.indexCast v62
  ![5, v84.toNat]
def k0_off12 (k0_t2 : Fin k0_t2_loop.trips) : Fin 2 → Nat :=
  let c6_i32 : BitVec 32 := 6#32
  let v87 : Index := Scalar.indexCast c6_i32
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v88 : Index := Scalar.indexCast v62
  ![6, v88.toNat]
def k0_off13 (k0_t2 : Fin k0_t2_loop.trips) : Fin 2 → Nat :=
  let c7_i32 : BitVec 32 := 7#32
  let v91 : Index := Scalar.indexCast c7_i32
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v92 : Index := Scalar.indexCast v62
  ![7, v92.toNat]
def k0_off14 (k0_t2 : Fin k0_t2_loop.trips) : Fin 2 → Nat :=
  let c8_i32 : BitVec 32 := 8#32
  let v95 : Index := Scalar.indexCast c8_i32
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v96 : Index := Scalar.indexCast v62
  ![8, v96.toNat]
def k0_off15 (k0_t2 : Fin k0_t2_loop.trips) : Fin 2 → Nat :=
  let c9_i32 : BitVec 32 := 9#32
  let v99 : Index := Scalar.indexCast c9_i32
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v100 : Index := Scalar.indexCast v62
  ![9, v100.toNat]
def k0_off16 (k0_t2 : Fin k0_t2_loop.trips) : Fin 2 → Nat :=
  let c10_i32 : BitVec 32 := 10#32
  let v103 : Index := Scalar.indexCast c10_i32
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v104 : Index := Scalar.indexCast v62
  ![10, v104.toNat]
def k0_off17 (k0_t2 : Fin k0_t2_loop.trips) : Fin 2 → Nat :=
  let c11_i32 : BitVec 32 := 11#32
  let v107 : Index := Scalar.indexCast c11_i32
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v108 : Index := Scalar.indexCast v62
  ![11, v108.toNat]
def k0_off18 (k0_t2 : Fin k0_t2_loop.trips) : Fin 2 → Nat :=
  let c12_i32 : BitVec 32 := 12#32
  let v111 : Index := Scalar.indexCast c12_i32
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v112 : Index := Scalar.indexCast v62
  ![12, v112.toNat]
def k0_off19 (k0_t2 : Fin k0_t2_loop.trips) : Fin 2 → Nat :=
  let c13_i32 : BitVec 32 := 13#32
  let v115 : Index := Scalar.indexCast c13_i32
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v116 : Index := Scalar.indexCast v62
  ![13, v116.toNat]
def k0_off20 (k0_t2 : Fin k0_t2_loop.trips) : Fin 2 → Nat :=
  let c14_i32 : BitVec 32 := 14#32
  let v119 : Index := Scalar.indexCast c14_i32
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v120 : Index := Scalar.indexCast v62
  ![14, v120.toNat]
def k0_off21 (k0_t2 : Fin k0_t2_loop.trips) : Fin 2 → Nat :=
  let c15_i32 : BitVec 32 := 15#32
  let v123 : Index := Scalar.indexCast c15_i32
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v124 : Index := Scalar.indexCast v62
  ![15, v124.toNat]
def k0_off22 (k0_t2 : Fin k0_t2_loop.trips) : Fin 1 → Nat :=
  let c0_i32_22 : BitVec 32 := 0#32
  let c1_i32_24 : BitVec 32 := 1#32
  let arg17 : BitVec 32 := Scf.iv c0_i32_22 c1_i32_24 k0_t2
  let c16_i32_59 : BitVec 32 := 16#32
  let v62 : BitVec 32 := Scalar.muli arg17 c16_i32_59
  let v142 : Index := Scalar.indexCast v62
  ![v142.toNat]
def k0_cond2 (k0_t1 : Fin k0_t1_loop.trips) : BitVec 1 :=
  let c0_i32_10 : BitVec 32 := 0#32
  let c1_i32 : BitVec 32 := 1#32
  let arg16 : BitVec 32 := Scf.iv c0_i32_10 c1_i32 k0_t1
  let c31_i32 : BitVec 32 := 31#32
  let v33 : BitVec 1 := Scalar.cmpi .slt arg16 c31_i32
  let v34 : BitVec 32 := Scalar.extui v33
  let c0_i32_26 : BitVec 32 := 0#32
  let v35 : BitVec 1 := Scalar.cmpi .ne v34 c0_i32_26
  v35

def k0_off23 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c64_i32 : BitVec 32 := 64#32
  let v3 : BitVec 32 := Scalar.muli v2 c64_i32
  let c0_i32_10 : BitVec 32 := 0#32
  let c1_i32 : BitVec 32 := 1#32
  let arg16 : BitVec 32 := Scf.iv c0_i32_10 c1_i32 k0_t1
  let c64_i32_15 : BitVec 32 := 64#32
  let v21 : BitVec 32 := Scalar.muli arg16 c64_i32_15
  let v22 : BitVec 32 := Scalar.addi v3 v21
  let c64_i32_59 : BitVec 32 := 64#32
  let v62 : BitVec 32 := Scalar.addi v22 c64_i32_59
  let c0_i32_60 : BitVec 32 := 0#32
  let v63 : BitVec 32 := Scalar.addi v62 c0_i32_60
  let c0_i32_61 : BitVec 32 := 0#32
  ![v63.toNat, 0]
@[reducible] def k0_t3_loop : Scf.Loop 32 :=
  let c0_i32_31 : BitVec 32 := 0#32
  let c64_i32_32 : BitVec 32 := 64#32
  let v39 : BitVec 32 := Scalar.addi c0_i32_31 c64_i32_32
  let c1_i32_33 : BitVec 32 := 1#32
  ⟨c0_i32_31, v39, c1_i32_33⟩
def k0_off24 (k0_t3 : Fin k0_t3_loop.trips) : Fin 2 → Nat :=
  let c0_i32_60 : BitVec 32 := 0#32
  let v63 : Index := Scalar.indexCast c0_i32_60
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v64 : Index := Scalar.indexCast v62
  ![0, v64.toNat]
def k0_off25 (k0_t3 : Fin k0_t3_loop.trips) : Fin 2 → Nat :=
  let c1_i32_61 : BitVec 32 := 1#32
  let v67 : Index := Scalar.indexCast c1_i32_61
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v68 : Index := Scalar.indexCast v62
  ![1, v68.toNat]
def k0_off26 (k0_t3 : Fin k0_t3_loop.trips) : Fin 2 → Nat :=
  let c2_i32_62 : BitVec 32 := 2#32
  let v71 : Index := Scalar.indexCast c2_i32_62
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v72 : Index := Scalar.indexCast v62
  ![2, v72.toNat]
def k0_off27 (k0_t3 : Fin k0_t3_loop.trips) : Fin 2 → Nat :=
  let c3_i32 : BitVec 32 := 3#32
  let v75 : Index := Scalar.indexCast c3_i32
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v76 : Index := Scalar.indexCast v62
  ![3, v76.toNat]
def k0_off28 (k0_t3 : Fin k0_t3_loop.trips) : Fin 2 → Nat :=
  let c4_i32 : BitVec 32 := 4#32
  let v79 : Index := Scalar.indexCast c4_i32
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v80 : Index := Scalar.indexCast v62
  ![4, v80.toNat]
def k0_off29 (k0_t3 : Fin k0_t3_loop.trips) : Fin 2 → Nat :=
  let c5_i32 : BitVec 32 := 5#32
  let v83 : Index := Scalar.indexCast c5_i32
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v84 : Index := Scalar.indexCast v62
  ![5, v84.toNat]
def k0_off30 (k0_t3 : Fin k0_t3_loop.trips) : Fin 2 → Nat :=
  let c6_i32 : BitVec 32 := 6#32
  let v87 : Index := Scalar.indexCast c6_i32
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v88 : Index := Scalar.indexCast v62
  ![6, v88.toNat]
def k0_off31 (k0_t3 : Fin k0_t3_loop.trips) : Fin 2 → Nat :=
  let c7_i32 : BitVec 32 := 7#32
  let v91 : Index := Scalar.indexCast c7_i32
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v92 : Index := Scalar.indexCast v62
  ![7, v92.toNat]
def k0_off32 (k0_t3 : Fin k0_t3_loop.trips) : Fin 2 → Nat :=
  let c8_i32 : BitVec 32 := 8#32
  let v95 : Index := Scalar.indexCast c8_i32
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v96 : Index := Scalar.indexCast v62
  ![8, v96.toNat]
def k0_off33 (k0_t3 : Fin k0_t3_loop.trips) : Fin 2 → Nat :=
  let c9_i32 : BitVec 32 := 9#32
  let v99 : Index := Scalar.indexCast c9_i32
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v100 : Index := Scalar.indexCast v62
  ![9, v100.toNat]
def k0_off34 (k0_t3 : Fin k0_t3_loop.trips) : Fin 2 → Nat :=
  let c10_i32 : BitVec 32 := 10#32
  let v103 : Index := Scalar.indexCast c10_i32
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v104 : Index := Scalar.indexCast v62
  ![10, v104.toNat]
def k0_off35 (k0_t3 : Fin k0_t3_loop.trips) : Fin 2 → Nat :=
  let c11_i32 : BitVec 32 := 11#32
  let v107 : Index := Scalar.indexCast c11_i32
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v108 : Index := Scalar.indexCast v62
  ![11, v108.toNat]
def k0_off36 (k0_t3 : Fin k0_t3_loop.trips) : Fin 2 → Nat :=
  let c12_i32 : BitVec 32 := 12#32
  let v111 : Index := Scalar.indexCast c12_i32
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v112 : Index := Scalar.indexCast v62
  ![12, v112.toNat]
def k0_off37 (k0_t3 : Fin k0_t3_loop.trips) : Fin 2 → Nat :=
  let c13_i32 : BitVec 32 := 13#32
  let v115 : Index := Scalar.indexCast c13_i32
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v116 : Index := Scalar.indexCast v62
  ![13, v116.toNat]
def k0_off38 (k0_t3 : Fin k0_t3_loop.trips) : Fin 2 → Nat :=
  let c14_i32 : BitVec 32 := 14#32
  let v119 : Index := Scalar.indexCast c14_i32
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v120 : Index := Scalar.indexCast v62
  ![14, v120.toNat]
def k0_off39 (k0_t3 : Fin k0_t3_loop.trips) : Fin 2 → Nat :=
  let c15_i32 : BitVec 32 := 15#32
  let v123 : Index := Scalar.indexCast c15_i32
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v124 : Index := Scalar.indexCast v62
  ![15, v124.toNat]
def k0_off40 (k0_t3 : Fin k0_t3_loop.trips) : Fin 1 → Nat :=
  let c0_i32_31 : BitVec 32 := 0#32
  let c1_i32_33 : BitVec 32 := 1#32
  let arg17 : BitVec 32 := Scf.iv c0_i32_31 c1_i32_33 k0_t3
  let c16_i32_59 : BitVec 32 := 16#32
  let v62 : BitVec 32 := Scalar.muli arg17 c16_i32_59
  let v142 : Index := Scalar.indexCast v62
  ![v142.toNat]
def k0_cond3 (k0_t1 : Fin k0_t1_loop.trips) : BitVec 1 :=
  let c0_i32_10 : BitVec 32 := 0#32
  let c1_i32 : BitVec 32 := 1#32
  let arg16 : BitVec 32 := Scf.iv c0_i32_10 c1_i32 k0_t1
  let c31_i32_35 : BitVec 32 := 31#32
  let v40 : BitVec 1 := Scalar.cmpi .slt arg16 c31_i32_35
  let v41 : BitVec 32 := Scalar.extui v40
  let c0_i32_36 : BitVec 32 := 0#32
  let v42 : BitVec 1 := Scalar.cmpi .ne v41 c0_i32_36
  v42

def k0_off41 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c64_i32 : BitVec 32 := 64#32
  let v3 : BitVec 32 := Scalar.muli v2 c64_i32
  let c0_i32_10 : BitVec 32 := 0#32
  let c1_i32 : BitVec 32 := 1#32
  let arg16 : BitVec 32 := Scf.iv c0_i32_10 c1_i32 k0_t1
  let c64_i32_15 : BitVec 32 := 64#32
  let v21 : BitVec 32 := Scalar.muli arg16 c64_i32_15
  let v22 : BitVec 32 := Scalar.addi v3 v21
  let c64_i32_59 : BitVec 32 := 64#32
  let v62 : BitVec 32 := Scalar.addi v22 c64_i32_59
  let c16_i32_60 : BitVec 32 := 16#32
  let v63 : BitVec 32 := Scalar.addi v62 c16_i32_60
  let c0_i32_61 : BitVec 32 := 0#32
  ![v63.toNat, 0]
@[reducible] def k0_t4_loop : Scf.Loop 32 :=
  let c0_i32_41 : BitVec 32 := 0#32
  let c64_i32_42 : BitVec 32 := 64#32
  let v46 : BitVec 32 := Scalar.addi c0_i32_41 c64_i32_42
  let c1_i32_43 : BitVec 32 := 1#32
  ⟨c0_i32_41, v46, c1_i32_43⟩
def k0_off42 (k0_t4 : Fin k0_t4_loop.trips) : Fin 2 → Nat :=
  let c0_i32_60 : BitVec 32 := 0#32
  let v63 : Index := Scalar.indexCast c0_i32_60
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v64 : Index := Scalar.indexCast v62
  ![0, v64.toNat]
def k0_off43 (k0_t4 : Fin k0_t4_loop.trips) : Fin 2 → Nat :=
  let c1_i32_61 : BitVec 32 := 1#32
  let v67 : Index := Scalar.indexCast c1_i32_61
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v68 : Index := Scalar.indexCast v62
  ![1, v68.toNat]
def k0_off44 (k0_t4 : Fin k0_t4_loop.trips) : Fin 2 → Nat :=
  let c2_i32_62 : BitVec 32 := 2#32
  let v71 : Index := Scalar.indexCast c2_i32_62
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v72 : Index := Scalar.indexCast v62
  ![2, v72.toNat]
def k0_off45 (k0_t4 : Fin k0_t4_loop.trips) : Fin 2 → Nat :=
  let c3_i32 : BitVec 32 := 3#32
  let v75 : Index := Scalar.indexCast c3_i32
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v76 : Index := Scalar.indexCast v62
  ![3, v76.toNat]
def k0_off46 (k0_t4 : Fin k0_t4_loop.trips) : Fin 2 → Nat :=
  let c4_i32 : BitVec 32 := 4#32
  let v79 : Index := Scalar.indexCast c4_i32
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v80 : Index := Scalar.indexCast v62
  ![4, v80.toNat]
def k0_off47 (k0_t4 : Fin k0_t4_loop.trips) : Fin 2 → Nat :=
  let c5_i32 : BitVec 32 := 5#32
  let v83 : Index := Scalar.indexCast c5_i32
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v84 : Index := Scalar.indexCast v62
  ![5, v84.toNat]
def k0_off48 (k0_t4 : Fin k0_t4_loop.trips) : Fin 2 → Nat :=
  let c6_i32 : BitVec 32 := 6#32
  let v87 : Index := Scalar.indexCast c6_i32
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v88 : Index := Scalar.indexCast v62
  ![6, v88.toNat]
def k0_off49 (k0_t4 : Fin k0_t4_loop.trips) : Fin 2 → Nat :=
  let c7_i32 : BitVec 32 := 7#32
  let v91 : Index := Scalar.indexCast c7_i32
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v92 : Index := Scalar.indexCast v62
  ![7, v92.toNat]
def k0_off50 (k0_t4 : Fin k0_t4_loop.trips) : Fin 2 → Nat :=
  let c8_i32 : BitVec 32 := 8#32
  let v95 : Index := Scalar.indexCast c8_i32
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v96 : Index := Scalar.indexCast v62
  ![8, v96.toNat]
def k0_off51 (k0_t4 : Fin k0_t4_loop.trips) : Fin 2 → Nat :=
  let c9_i32 : BitVec 32 := 9#32
  let v99 : Index := Scalar.indexCast c9_i32
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v100 : Index := Scalar.indexCast v62
  ![9, v100.toNat]
def k0_off52 (k0_t4 : Fin k0_t4_loop.trips) : Fin 2 → Nat :=
  let c10_i32 : BitVec 32 := 10#32
  let v103 : Index := Scalar.indexCast c10_i32
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v104 : Index := Scalar.indexCast v62
  ![10, v104.toNat]
def k0_off53 (k0_t4 : Fin k0_t4_loop.trips) : Fin 2 → Nat :=
  let c11_i32 : BitVec 32 := 11#32
  let v107 : Index := Scalar.indexCast c11_i32
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v108 : Index := Scalar.indexCast v62
  ![11, v108.toNat]
def k0_off54 (k0_t4 : Fin k0_t4_loop.trips) : Fin 2 → Nat :=
  let c12_i32 : BitVec 32 := 12#32
  let v111 : Index := Scalar.indexCast c12_i32
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v112 : Index := Scalar.indexCast v62
  ![12, v112.toNat]
def k0_off55 (k0_t4 : Fin k0_t4_loop.trips) : Fin 2 → Nat :=
  let c13_i32 : BitVec 32 := 13#32
  let v115 : Index := Scalar.indexCast c13_i32
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v116 : Index := Scalar.indexCast v62
  ![13, v116.toNat]
def k0_off56 (k0_t4 : Fin k0_t4_loop.trips) : Fin 2 → Nat :=
  let c14_i32 : BitVec 32 := 14#32
  let v119 : Index := Scalar.indexCast c14_i32
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v120 : Index := Scalar.indexCast v62
  ![14, v120.toNat]
def k0_off57 (k0_t4 : Fin k0_t4_loop.trips) : Fin 2 → Nat :=
  let c15_i32 : BitVec 32 := 15#32
  let v123 : Index := Scalar.indexCast c15_i32
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v124 : Index := Scalar.indexCast v62
  ![15, v124.toNat]
def k0_off58 (k0_t4 : Fin k0_t4_loop.trips) : Fin 1 → Nat :=
  let c0_i32_41 : BitVec 32 := 0#32
  let c1_i32_43 : BitVec 32 := 1#32
  let arg17 : BitVec 32 := Scf.iv c0_i32_41 c1_i32_43 k0_t4
  let c16_i32_59 : BitVec 32 := 16#32
  let v62 : BitVec 32 := Scalar.muli arg17 c16_i32_59
  let v142 : Index := Scalar.indexCast v62
  ![v142.toNat]
def k0_cond4 (k0_t1 : Fin k0_t1_loop.trips) : BitVec 1 :=
  let c0_i32_10 : BitVec 32 := 0#32
  let c1_i32 : BitVec 32 := 1#32
  let arg16 : BitVec 32 := Scf.iv c0_i32_10 c1_i32 k0_t1
  let c31_i32_45 : BitVec 32 := 31#32
  let v47 : BitVec 1 := Scalar.cmpi .slt arg16 c31_i32_45
  let v48 : BitVec 32 := Scalar.extui v47
  let c0_i32_46 : BitVec 32 := 0#32
  let v49 : BitVec 1 := Scalar.cmpi .ne v48 c0_i32_46
  v49

def k0_off59 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c64_i32 : BitVec 32 := 64#32
  let v3 : BitVec 32 := Scalar.muli v2 c64_i32
  let c0_i32_10 : BitVec 32 := 0#32
  let c1_i32 : BitVec 32 := 1#32
  let arg16 : BitVec 32 := Scf.iv c0_i32_10 c1_i32 k0_t1
  let c64_i32_15 : BitVec 32 := 64#32
  let v21 : BitVec 32 := Scalar.muli arg16 c64_i32_15
  let v22 : BitVec 32 := Scalar.addi v3 v21
  let c64_i32_59 : BitVec 32 := 64#32
  let v62 : BitVec 32 := Scalar.addi v22 c64_i32_59
  let c32_i32_60 : BitVec 32 := 32#32
  let v63 : BitVec 32 := Scalar.addi v62 c32_i32_60
  let c0_i32_61 : BitVec 32 := 0#32
  ![v63.toNat, 0]
@[reducible] def k0_t5_loop : Scf.Loop 32 :=
  let c0_i32_51 : BitVec 32 := 0#32
  let c64_i32_52 : BitVec 32 := 64#32
  let v53 : BitVec 32 := Scalar.addi c0_i32_51 c64_i32_52
  let c1_i32_53 : BitVec 32 := 1#32
  ⟨c0_i32_51, v53, c1_i32_53⟩
def k0_off60 (k0_t5 : Fin k0_t5_loop.trips) : Fin 2 → Nat :=
  let c0_i32_60 : BitVec 32 := 0#32
  let v63 : Index := Scalar.indexCast c0_i32_60
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v64 : Index := Scalar.indexCast v62
  ![0, v64.toNat]
def k0_off61 (k0_t5 : Fin k0_t5_loop.trips) : Fin 2 → Nat :=
  let c1_i32_61 : BitVec 32 := 1#32
  let v67 : Index := Scalar.indexCast c1_i32_61
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v68 : Index := Scalar.indexCast v62
  ![1, v68.toNat]
def k0_off62 (k0_t5 : Fin k0_t5_loop.trips) : Fin 2 → Nat :=
  let c2_i32_62 : BitVec 32 := 2#32
  let v71 : Index := Scalar.indexCast c2_i32_62
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v72 : Index := Scalar.indexCast v62
  ![2, v72.toNat]
def k0_off63 (k0_t5 : Fin k0_t5_loop.trips) : Fin 2 → Nat :=
  let c3_i32 : BitVec 32 := 3#32
  let v75 : Index := Scalar.indexCast c3_i32
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v76 : Index := Scalar.indexCast v62
  ![3, v76.toNat]
def k0_off64 (k0_t5 : Fin k0_t5_loop.trips) : Fin 2 → Nat :=
  let c4_i32 : BitVec 32 := 4#32
  let v79 : Index := Scalar.indexCast c4_i32
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v80 : Index := Scalar.indexCast v62
  ![4, v80.toNat]
def k0_off65 (k0_t5 : Fin k0_t5_loop.trips) : Fin 2 → Nat :=
  let c5_i32 : BitVec 32 := 5#32
  let v83 : Index := Scalar.indexCast c5_i32
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v84 : Index := Scalar.indexCast v62
  ![5, v84.toNat]
def k0_off66 (k0_t5 : Fin k0_t5_loop.trips) : Fin 2 → Nat :=
  let c6_i32 : BitVec 32 := 6#32
  let v87 : Index := Scalar.indexCast c6_i32
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v88 : Index := Scalar.indexCast v62
  ![6, v88.toNat]
def k0_off67 (k0_t5 : Fin k0_t5_loop.trips) : Fin 2 → Nat :=
  let c7_i32 : BitVec 32 := 7#32
  let v91 : Index := Scalar.indexCast c7_i32
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v92 : Index := Scalar.indexCast v62
  ![7, v92.toNat]
def k0_off68 (k0_t5 : Fin k0_t5_loop.trips) : Fin 2 → Nat :=
  let c8_i32 : BitVec 32 := 8#32
  let v95 : Index := Scalar.indexCast c8_i32
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v96 : Index := Scalar.indexCast v62
  ![8, v96.toNat]
def k0_off69 (k0_t5 : Fin k0_t5_loop.trips) : Fin 2 → Nat :=
  let c9_i32 : BitVec 32 := 9#32
  let v99 : Index := Scalar.indexCast c9_i32
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v100 : Index := Scalar.indexCast v62
  ![9, v100.toNat]
def k0_off70 (k0_t5 : Fin k0_t5_loop.trips) : Fin 2 → Nat :=
  let c10_i32 : BitVec 32 := 10#32
  let v103 : Index := Scalar.indexCast c10_i32
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v104 : Index := Scalar.indexCast v62
  ![10, v104.toNat]
def k0_off71 (k0_t5 : Fin k0_t5_loop.trips) : Fin 2 → Nat :=
  let c11_i32 : BitVec 32 := 11#32
  let v107 : Index := Scalar.indexCast c11_i32
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v108 : Index := Scalar.indexCast v62
  ![11, v108.toNat]
def k0_off72 (k0_t5 : Fin k0_t5_loop.trips) : Fin 2 → Nat :=
  let c12_i32 : BitVec 32 := 12#32
  let v111 : Index := Scalar.indexCast c12_i32
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v112 : Index := Scalar.indexCast v62
  ![12, v112.toNat]
def k0_off73 (k0_t5 : Fin k0_t5_loop.trips) : Fin 2 → Nat :=
  let c13_i32 : BitVec 32 := 13#32
  let v115 : Index := Scalar.indexCast c13_i32
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v116 : Index := Scalar.indexCast v62
  ![13, v116.toNat]
def k0_off74 (k0_t5 : Fin k0_t5_loop.trips) : Fin 2 → Nat :=
  let c14_i32 : BitVec 32 := 14#32
  let v119 : Index := Scalar.indexCast c14_i32
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v120 : Index := Scalar.indexCast v62
  ![14, v120.toNat]
def k0_off75 (k0_t5 : Fin k0_t5_loop.trips) : Fin 2 → Nat :=
  let c15_i32 : BitVec 32 := 15#32
  let v123 : Index := Scalar.indexCast c15_i32
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v124 : Index := Scalar.indexCast v62
  ![15, v124.toNat]
def k0_off76 (k0_t5 : Fin k0_t5_loop.trips) : Fin 1 → Nat :=
  let c0_i32_51 : BitVec 32 := 0#32
  let c1_i32_53 : BitVec 32 := 1#32
  let arg17 : BitVec 32 := Scf.iv c0_i32_51 c1_i32_53 k0_t5
  let c16_i32_59 : BitVec 32 := 16#32
  let v62 : BitVec 32 := Scalar.muli arg17 c16_i32_59
  let v142 : Index := Scalar.indexCast v62
  ![v142.toNat]
def k0_cond5 (k0_t1 : Fin k0_t1_loop.trips) : BitVec 1 :=
  let c0_i32_10 : BitVec 32 := 0#32
  let c1_i32 : BitVec 32 := 1#32
  let arg16 : BitVec 32 := Scf.iv c0_i32_10 c1_i32 k0_t1
  let c31_i32_55 : BitVec 32 := 31#32
  let v54 : BitVec 1 := Scalar.cmpi .slt arg16 c31_i32_55
  let v55 : BitVec 32 := Scalar.extui v54
  let c0_i32_56 : BitVec 32 := 0#32
  let v56 : BitVec 1 := Scalar.cmpi .ne v55 c0_i32_56
  v56

def k0_off77 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c64_i32 : BitVec 32 := 64#32
  let v3 : BitVec 32 := Scalar.muli v2 c64_i32
  let c0_i32_10 : BitVec 32 := 0#32
  let c1_i32 : BitVec 32 := 1#32
  let arg16 : BitVec 32 := Scf.iv c0_i32_10 c1_i32 k0_t1
  let c64_i32_15 : BitVec 32 := 64#32
  let v21 : BitVec 32 := Scalar.muli arg16 c64_i32_15
  let v22 : BitVec 32 := Scalar.addi v3 v21
  let c64_i32_59 : BitVec 32 := 64#32
  let v62 : BitVec 32 := Scalar.addi v22 c64_i32_59
  let c48_i32_60 : BitVec 32 := 48#32
  let v63 : BitVec 32 := Scalar.addi v62 c48_i32_60
  let c0_i32_61 : BitVec 32 := 0#32
  ![v63.toNat, 0]
def k0_off78 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_10 : BitVec 32 := 0#32
  let c1_i32 : BitVec 32 := 1#32
  let arg16 : BitVec 32 := Scf.iv c0_i32_10 c1_i32 k0_t1
  let v57 : BitVec 32 := Scalar.addi v2 arg16
  let c0_i32_57 : BitVec 32 := 0#32
  ![v57.toNat, 0]
def k0_off79 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_13 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x1024 : Shape := ⟨3, ![16, 4096, 1024]⟩
abbrev S16x64 : Shape := ⟨2, ![16, 64]⟩
abbrev S_ : Shape := ⟨0, ![]⟩
abbrev S4096 : Shape := ⟨1, ![4096]⟩
abbrev S16x1x64 : Shape := ⟨3, ![16, 1, 64]⟩
abbrev S1x4096x1 : Shape := ⟨3, ![1, 4096, 1]⟩
abbrev S16x4096x64 : Shape := ⟨3, ![16, 4096, 64]⟩
abbrev S16x4096 : Shape := ⟨2, ![16, 4096]⟩
abbrev S16 : Shape := ⟨1, ![16]⟩
abbrev S16x1 : Shape := ⟨2, ![16, 1]⟩
abbrev S65536 : Shape := ⟨1, ![65536]⟩
abbrev S1024 : Shape := ⟨1, ![1024]⟩
abbrev S65536x1 : Shape := ⟨2, ![65536, 1]⟩
abbrev S1 : Shape := ⟨1, ![1]⟩
abbrev S1x1 : Shape := ⟨2, ![1, 1]⟩
abbrev S65536x1024 : Shape := ⟨2, ![65536, 1024]⟩
abbrev S1024x1024 : Shape := ⟨2, ![1024, 1024]⟩
abbrev S16x64x1024 : Shape := ⟨3, ![16, 64, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x64, .i32⟩
  | .hbm, ⟨2, _⟩ => ⟨S_, .i32⟩
  | .hbm, ⟨3, _⟩ => ⟨S_, .i32⟩
  | .hbm, ⟨4, _⟩ => ⟨S16x64, .i32⟩
  | .hbm, ⟨5, _⟩ => ⟨S4096, .i32⟩
  | .hbm, ⟨6, _⟩ => ⟨S16x1x64, .i32⟩
  | .hbm, ⟨7, _⟩ => ⟨S1x4096x1, .i32⟩
  | .hbm, ⟨8, _⟩ => ⟨S16x4096x64, .i32⟩
  | .hbm, ⟨9, _⟩ => ⟨S16x4096x64, .i32⟩
  | .hbm, ⟨10, _⟩ => ⟨S16x4096x64, .i1⟩
  | .hbm, ⟨11, _⟩ => ⟨S16x4096x64, .i32⟩
  | .hbm, ⟨12, _⟩ => ⟨S_, .i32⟩
  | .hbm, ⟨13, _⟩ => ⟨S16x4096, .i32⟩
  | .hbm, ⟨14, _⟩ => ⟨S_, .i32⟩
  | .hbm, ⟨15, _⟩ => ⟨S16x4096, .i32⟩
  | .hbm, ⟨16, _⟩ => ⟨S16x4096, .i32⟩
  | .hbm, ⟨17, _⟩ => ⟨S16, .i32⟩
  | .hbm, ⟨18, _⟩ => ⟨S16x1, .i32⟩
  | .hbm, ⟨19, _⟩ => ⟨S_, .i32⟩
  | .hbm, ⟨20, _⟩ => ⟨S16x1, .i32⟩
  | .hbm, ⟨21, _⟩ => ⟨S16x1, .i32⟩
  | .hbm, ⟨22, _⟩ => ⟨S16x4096, .i32⟩
  | .hbm, ⟨23, _⟩ => ⟨S16x4096, .i32⟩
  | .hbm, ⟨24, _⟩ => ⟨S65536, .i32⟩
  | .hbm, ⟨25, _⟩ => ⟨S16x64, .f32⟩
  | .hbm, ⟨26, _⟩ => ⟨S_, .f32⟩
  | .hbm, ⟨27, _⟩ => ⟨S16x64, .f32⟩
  | .hbm, ⟨28, _⟩ => ⟨S16x64, .f32⟩
  | .hbm, ⟨29, _⟩ => ⟨S1024, .f32⟩
  | .hbm, ⟨30, _⟩ => ⟨S_, .i32⟩
  | .hbm, ⟨31, _⟩ => ⟨S65536, .i32⟩
  | .hbm, ⟨32, _⟩ => ⟨S65536, .i1⟩
  | .hbm, ⟨33, _⟩ => ⟨S_, .i32⟩
  | .hbm, ⟨34, _⟩ => ⟨S65536, .i32⟩
  | .hbm, ⟨35, _⟩ => ⟨S65536, .i32⟩
  | .hbm, ⟨36, _⟩ => ⟨S65536, .i32⟩
  | .hbm, ⟨37, _⟩ => ⟨S65536x1, .i32⟩
  | .hbm, ⟨38, _⟩ => ⟨S1, .i32⟩
  | .hbm, ⟨39, _⟩ => ⟨S_, .i32⟩
  | .hbm, ⟨40, _⟩ => ⟨S65536x1, .i32⟩
  | .hbm, ⟨41, _⟩ => ⟨S65536x1, .i1⟩
  | .hbm, ⟨42, _⟩ => ⟨S1x1, .i32⟩
  | .hbm, ⟨43, _⟩ => ⟨S65536x1, .i32⟩
  | .hbm, ⟨44, _⟩ => ⟨S65536x1, .i1⟩
  | .hbm, ⟨45, _⟩ => ⟨S65536x1, .i1⟩
  | .hbm, ⟨46, _⟩ => ⟨S_, .i1⟩
  | .hbm, ⟨47, _⟩ => ⟨S65536, .i1⟩
  | .hbm, ⟨48, _⟩ => ⟨S65536, .f32⟩
  | .hbm, ⟨49, _⟩ => ⟨S_, .f32⟩
  | .hbm, ⟨50, _⟩ => ⟨S65536, .f32⟩
  | .hbm, ⟨51, _⟩ => ⟨S65536, .f32⟩
  | .hbm, ⟨52, _⟩ => ⟨S65536x1024, .f32⟩
  | .hbm, ⟨53, _⟩ => ⟨S65536x1, .f32⟩
  | .hbm, ⟨54, _⟩ => ⟨S65536x1024, .f32⟩
  | .hbm, ⟨55, _⟩ => ⟨S65536x1024, .f32⟩
  | .hbm, ⟨56, _⟩ => ⟨S_, .f32⟩
  | .hbm, ⟨57, _⟩ => ⟨S1024x1024, .f32⟩
  | .hbm, ⟨58, _⟩ => ⟨S65536x1, .i32⟩
  | .hbm, ⟨59, _⟩ => ⟨S1024x1024, .f32⟩
  | .hbm, ⟨60, _⟩ => ⟨S_, .i32⟩
  | .hbm, ⟨61, _⟩ => ⟨S16, .i32⟩
  | .hbm, ⟨62, _⟩ => ⟨S16x64x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_2 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_3 : Ref sig .tc := ⟨.hbm, 60, rfl⟩
abbrev main_v30 : Ref sig .tc := ⟨.hbm, 61, rfl⟩
abbrev main_v31 : Ref sig .tc := ⟨.hbm, 62, rfl⟩

abbrev nD : Nat := 1
abbrev τ : Topo := Topo.v7x

variable {F : FTy → Type} [FloatOps F]
-- ==== Proof.Trip.lean ====
/-
  One trip of the column loops: sixteen columns of one block of rows, added up as a tree and put into the running values.
  `tree` is the sum of sixteen rows in the order the kernel adds them, `upd` what a block makes of a running value (the first
  block stores, the second and third add, the last adds and multiplies by the group's factor), `newOf` the running values after
  a block. The trip theorems say that trip `k` of each loop turns the running values of the columns before `16 k` into those
  before `16 (k + 1)`. Everything is stated for any float instance.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

abbrev UH : Type := URounds (GSem nD τ sig) ℕ
abbrev UU : Type := UH × Counters

local notation "𝕄" => MT nD τ sig (HIx 1) (Elt F) ℕ UU ℕ

abbrev 𝒱₀ : Variants := Variants.none

/-! ## The values -/

/-- The sum of sixteen values as the kernel brackets it: pairs, then pairs of pairs, and so on. -/
def tree (v : Fin 16 → F .f32) : F .f32 :=
  let a := FloatOps.addf (F := F) (φ := .f32)
  a (a (a (a (v 0) (v 1)) (a (v 2) (v 3))) (a (a (v 4) (v 5)) (a (v 6) (v 7))))
    (a (a (a (v 8) (v 9)) (a (v 10) (v 11))) (a (a (v 12) (v 13)) (a (v 14) (v 15))))

/-- What block `b` of a group makes of the running value `o`, the block's sum `t` and the group's factor `s`. -/
def upd (b : Fin 4) (o t s : F .f32) : F .f32 :=
  match b with
  | 0 => t
  | 1 => FloatOps.addf o t
  | 2 => FloatOps.addf o t
  | 3 => FloatOps.mulf (FloatOps.addf o t) s

/-- Row `r` of a rows-by-columns function, its sixteen columns from `16 k` on, as the loaded vector. -/
def rowVec (g : Fin 16 → Fin 1024 → F .f32) (r : Fin 16) (k : ℕ) : Vec F S1x16 .f32 :=
  fun x => g r (Fin.ofNat 1024 (16 * k + (x 1).val))

variable (d : Dev nD) (i : grid0.Coords)

/-- The tile of device `d` at the launch's coordinates `i`. -/
abbrev th : Thread nD τ := (d, .scVector ((i 0).castLE hcore0) ((i 1).castLE hsub0))

/-- Sixteen row loads of one column block, then the continuation on the loaded vectors. -/
def rowsProg (buf : Memref sig .scVector .vmem S16x1024 .f32) (k : Fin k0_t2_loop.trips)
    (κ : (Fin 16 → Vec F S1x16 .f32) → Prog (TpuEff nD τ sig (Elt F) Λ₀ (th d i).2) PUnit) :
    Prog (TpuEff nD τ sig (Elt F) Λ₀ (th d i).2) PUnit := do
  let v0 : Vec F S1x16 .f32 ← Prog.lift (.load buf (Rect.unit (s := S16x1024) (k0_off6 k) S1x16.size (k0_off6_inb k)).toLoadRect (View.loadsAt_vmem h_S1x16))
  let v1 : Vec F S1x16 .f32 ← Prog.lift (.load buf (Rect.unit (s := S16x1024) (k0_off7 k) S1x16.size (k0_off7_inb k)).toLoadRect (View.loadsAt_vmem h_S1x16))
  let v2 : Vec F S1x16 .f32 ← Prog.lift (.load buf (Rect.unit (s := S16x1024) (k0_off8 k) S1x16.size (k0_off8_inb k)).toLoadRect (View.loadsAt_vmem h_S1x16))
  let v3 : Vec F S1x16 .f32 ← Prog.lift (.load buf (Rect.unit (s := S16x1024) (k0_off9 k) S1x16.size (k0_off9_inb k)).toLoadRect (View.loadsAt_vmem h_S1x16))
  let v4 : Vec F S1x16 .f32 ← Prog.lift (.load buf (Rect.unit (s := S16x1024) (k0_off10 k) S1x16.size (k0_off10_inb k)).toLoadRect (View.loadsAt_vmem h_S1x16))
  let v5 : Vec F S1x16 .f32 ← Prog.lift (.load buf (Rect.unit (s := S16x1024) (k0_off11 k) S1x16.size (k0_off11_inb k)).toLoadRect (View.loadsAt_vmem h_S1x16))
  let v6 : Vec F S1x16 .f32 ← Prog.lift (.load buf (Rect.unit (s := S16x1024) (k0_off12 k) S1x16.size (k0_off12_inb k)).toLoadRect (View.loadsAt_vmem h_S1x16))
  let v7 : Vec F S1x16 .f32 ← Prog.lift (.load buf (Rect.unit (s := S16x1024) (k0_off13 k) S1x16.size (k0_off13_inb k)).toLoadRect (View.loadsAt_vmem h_S1x16))
  let v8 : Vec F S1x16 .f32 ← Prog.lift (.load buf (Rect.unit (s := S16x1024) (k0_off14 k) S1x16.size (k0_off14_inb k)).toLoadRect (View.loadsAt_vmem h_S1x16))
  let v9 : Vec F S1x16 .f32 ← Prog.lift (.load buf (Rect.unit (s := S16x1024) (k0_off15 k) S1x16.size (k0_off15_inb k)).toLoadRect (View.loadsAt_vmem h_S1x16))
  let v10 : Vec F S1x16 .f32 ← Prog.lift (.load buf (Rect.unit (s := S16x1024) (k0_off16 k) S1x16.size (k0_off16_inb k)).toLoadRect (View.loadsAt_vmem h_S1x16))
  let v11 : Vec F S1x16 .f32 ← Prog.lift (.load buf (Rect.unit (s := S16x1024) (k0_off17 k) S1x16.size (k0_off17_inb k)).toLoadRect (View.loadsAt_vmem h_S1x16))
  let v12 : Vec F S1x16 .f32 ← Prog.lift (.load buf (Rect.unit (s := S16x1024) (k0_off18 k) S1x16.size (k0_off18_inb k)).toLoadRect (View.loadsAt_vmem h_S1x16))
  let v13 : Vec F S1x16 .f32 ← Prog.lift (.load buf (Rect.unit (s := S16x1024) (k0_off19 k) S1x16.size (k0_off19_inb k)).toLoadRect (View.loadsAt_vmem h_S1x16))
  let v14 : Vec F S1x16 .f32 ← Prog.lift (.load buf (Rect.unit (s := S16x1024) (k0_off20 k) S1x16.size (k0_off20_inb k)).toLoadRect (View.loadsAt_vmem h_S1x16))
  let v15 : Vec F S1x16 .f32 ← Prog.lift (.load buf (Rect.unit (s := S16x1024) (k0_off21 k) S1x16.size (k0_off21_inb k)).toLoadRect (View.loadsAt_vmem h_S1x16))
  κ ![v0, v1, v2, v3, v4, v5, v6, v7, v8, v9, v10, v11, v12, v13, v14, v15]

/-- A load of sixteen columns of one row of a block, of whose contents the values are known. -/
theorem wp_row (buf : Memref sig .scVector .vmem S16x1024 .f32) (f : Buf (Elt F) (buf.view.loc (th d i)))
    (g : Fin 16 → Fin 1024 → F .f32) (hg : buf.view.read (Elt F) f = fun x => g (x 0) (x 1))
    (r : Fin 16) (k : Fin 64) {off : Fin 2 → ℕ} (hoff : off = ![r.val, 16 * k.val])
    (inb : ∀ a, off a + S1x16.size a ≤ S16x1024.size a) (hl : buf.view.LoadsAt (Rect.unit (s := S16x1024) off S1x16.size inb).toLoadRect)
    (κ : Vec F S1x16 .f32 → Prog (TpuEff nD τ sig (Elt F) Λ₀ (th d i).2) PUnit) (Q : PUnit → sProp 𝕄) :
    (buf.view.loc (th d i) ↦{fullShare} f : sProp 𝕄)
      ⊢ iprop(((buf.view.loc (th d i) ↦{fullShare} f)
            -∗ wp frame (wpE (defs₀ (F := F)) 𝒱₀ (th d i) none) Set.univ (κ (rowVec g r k)) Q)
          -∗ wp frame (wpE (defs₀ (F := F)) 𝒱₀ (th d i) none) Set.univ
              (.op (.load buf (Rect.unit (s := S16x1024) off S1x16.size inb).toLoadRect hl) κ) Q) := by
  have hv : buf.view.readAt (Elt F) (Rect.unit (s := S16x1024) off S1x16.size inb).toLoadRect f = rowVec g r k := by
    funext x
    rw [View.readAt_apply, hg]
    subst hoff
    have hx0 : (x 0).val = 0 := by have : (x 0).val < 1 := (x 0).isLt; omega
    have hx1 : (x 1).val < 16 := (x 1).isLt
    have h0 : (((Rect.unit (s := S16x1024) ![r.val, 16 * k.val] S1x16.size inb).toLoadRect.idx x) 0 : Fin 16) = r :=
      Fin.ext (by show r.val + 1 * (x 0).val = r.val; omega)
    have h1 : (((Rect.unit (s := S16x1024) ![r.val, 16 * k.val] S1x16.size inb).toLoadRect.idx x) 1 : Fin 1024)
        = Fin.ofNat 1024 (16 * k.val + (x 1).val) := by
      refine Fin.ext ?_
      show 16 * k.val + 1 * (x 1).val = (16 * k.val + (x 1).val) % 1024
      have := k.isLt
      omega
    exact congrArg₂ g h0 h1
  rw [← hv]
  exact wp_load 𝒱₀ (th d i) none Set.univ (Finset.subset_univ _)

/-- The sixteen row loads continue at the sixteen rows' columns. -/
theorem wp_rows (buf : Memref sig .scVector .vmem S16x1024 .f32) (f : Buf (Elt F) (buf.view.loc (th d i)))
    (g : Fin 16 → Fin 1024 → F .f32) (hg : buf.view.read (Elt F) f = fun x => g (x 0) (x 1)) (k : Fin k0_t2_loop.trips)
    (κ : (Fin 16 → Vec F S1x16 .f32) → Prog (TpuEff nD τ sig (Elt F) Λ₀ (th d i).2) PUnit) (Q : PUnit → sProp 𝕄) :
    (buf.view.loc (th d i) ↦{fullShare} f : sProp 𝕄)
      ⊢ iprop(((buf.view.loc (th d i) ↦{fullShare} f)
            -∗ wp frame (wpE (defs₀ (F := F)) 𝒱₀ (th d i) none) Set.univ (κ (fun r => rowVec g r k.val)) Q)
          -∗ wp frame (wpE (defs₀ (F := F)) 𝒱₀ (th d i) none) Set.univ (rowsProg d i buf k κ) Q) := by
  iintro Hb HK
  unfold rowsProg
  simp only [Prog.lift, Prog.bind_op, Prog.bind_ret, Prog.pure_eq_ret]
  iapply (wp_row d i buf f g hg 0 k (k0_off6_eq k) _ _ _ Q) $$ Hb; iintro Hb
  iapply (wp_row d i buf f g hg 1 k (k0_off7_eq k) _ _ _ Q) $$ Hb; iintro Hb
  iapply (wp_row d i buf f g hg 2 k (k0_off8_eq k) _ _ _ Q) $$ Hb; iintro Hb
  iapply (wp_row d i buf f g hg 3 k (k0_off9_eq k) _ _ _ Q) $$ Hb; iintro Hb
  iapply (wp_row d i buf f g hg 4 k (k0_off10_eq k) _ _ _ Q) $$ Hb; iintro Hb
  iapply (wp_row d i buf f g hg 5 k (k0_off11_eq k) _ _ _ Q) $$ Hb; iintro Hb
  iapply (wp_row d i buf f g hg 6 k (k0_off12_eq k) _ _ _ Q) $$ Hb; iintro Hb
  iapply (wp_row d i buf f g hg 7 k (k0_off13_eq k) _ _ _ Q) $$ Hb; iintro Hb
  iapply (wp_row d i buf f g hg 8 k (k0_off14_eq k) _ _ _ Q) $$ Hb; iintro Hb
  iapply (wp_row d i buf f g hg 9 k (k0_off15_eq k) _ _ _ Q) $$ Hb; iintro Hb
  iapply (wp_row d i buf f g hg 10 k (k0_off16_eq k) _ _ _ Q) $$ Hb; iintro Hb
  iapply (wp_row d i buf f g hg 11 k (k0_off17_eq k) _ _ _ Q) $$ Hb; iintro Hb
  iapply (wp_row d i buf f g hg 12 k (k0_off18_eq k) _ _ _ Q) $$ Hb; iintro Hb
  iapply (wp_row d i buf f g hg 13 k (k0_off19_eq k) _ _ _ Q) $$ Hb; iintro Hb
  iapply (wp_row d i buf f g hg 14 k (k0_off20_eq k) _ _ _ Q) $$ Hb; iintro Hb
  iapply (wp_row d i buf f g hg 15 k (k0_off21_eq k) _ _ _ Q) $$ Hb; iintro Hb
  have hv : (![rowVec g 0 k.val, rowVec g 1 k.val, rowVec g 2 k.val, rowVec g 3 k.val, rowVec g 4 k.val, rowVec g 5 k.val,
      rowVec g 6 k.val, rowVec g 7 k.val, rowVec g 8 k.val, rowVec g 9 k.val, rowVec g 10 k.val, rowVec g 11 k.val,
      rowVec g 12 k.val, rowVec g 13 k.val, rowVec g 14 k.val, rowVec g 15 k.val] : Fin 16 → Vec F S1x16 .f32)
        = fun r => rowVec g r k.val := by
    funext r; fin_cases r <;> rfl
  rw [hv]
  iapply HK $$ Hb

variable (arg2 : Memref sig .scVector .hbm S65536x1024 .f32) (harg2 : arg2.IsWhole) (arg3 : Memref sig .scVector .hbm S1024x16 .f32) (harg3 : arg3.IsWhole) (arg4 : Memref sig .scVector .hbm S1024x1024 .f32) (harg4 : arg4.IsWhole) (arg5 : Memref sig .scVector .vmem S16x1024 .f32) (harg5 : arg5.IsWhole) (arg6 : Memref sig .scVector .vmem S16x1024 .f32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S1024 .f32) (harg9 : arg9.IsWhole) (arg10 : Memref sig .scVector .vmem S32x16 .f32) (harg10 : arg10.IsWhole) (arg11 arg12 arg13 arg14 arg15 v21 : DmaSems sig S_)

/-- The load of the running values' block, twice where the block is added to them, and the store of the new values. -/
def accProg1 (acc : Memref sig .scVector .vmem S1024 .f32) (k : Fin k0_t2_loop.trips)
    (p : FVec F S16 .f32) :
    Prog (TpuEff nD τ sig (Elt F) Λ₀ (th d i).2) PUnit := do
  let _ : Vec F S16 .f32 ← Prog.lift (.load acc (Rect.unit (s := S1024) (k0_off22 k) S16.size (k0_off22_inb k)).toLoadRect (View.loadsAt_vmem h_S16))
  Prog.lift (.store acc (Rect.unit (s := S1024) (k0_off22 k) S16.size (k0_off22_inb k)) p Finset.univ (View.stores_vmem_bits_univ h_S16 rfl) (.inl rfl))
  pure ⟨⟩

/-- The load of the running values' block, once more, and the store of what `p` makes of them. -/
def accProg2 (acc : Memref sig .scVector .vmem S1024 .f32) (k : Fin k0_t2_loop.trips)
    (p : Vec F S16 .f32 → FVec F S16 .f32) :
    Prog (TpuEff nD τ sig (Elt F) Λ₀ (th d i).2) PUnit := do
  let v : Vec F S16 .f32 ← Prog.lift (.load acc (Rect.unit (s := S1024) (k0_off22 k) S16.size (k0_off22_inb k)).toLoadRect (View.loadsAt_vmem h_S16))
  let _ : Vec F S16 .f32 ← Prog.lift (.load acc (Rect.unit (s := S1024) (k0_off22 k) S16.size (k0_off22_inb k)).toLoadRect (View.loadsAt_vmem h_S16))
  Prog.lift (.store acc (Rect.unit (s := S1024) (k0_off22 k) S16.size (k0_off22_inb k)) (p v) Finset.univ (View.stores_vmem_bits_univ h_S16 rfl) (.inl rfl))
  pure ⟨⟩

/-- Sixteen loaded rows as the lanes the payloads read. -/
def lanes (v : Fin 16 → Vec F S1x16 .f32) (r : Fin 16) : FVec F S16 .f32 := shapeCast S16 (v r) shapeCasts_S1x16_S16

/-- The running values' columns of block `k`. -/
def accVec (A : Fin 1024 → F .f32) (k : ℕ) : Vec F S16 .f32 :=
  fun x => A (Fin.ofNat 1024 (16 * k + (x 0).val))

/-- A load of one block of the running values. -/
theorem wp_accLoad (acc : Memref sig .scVector .vmem S1024 .f32) (f : Buf (Elt F) (acc.view.loc (th d i)))
    (A : Fin 1024 → F .f32) (hA : acc.view.read (Elt F) f = fun x => A (x 0)) (k : Fin 64) {off : Fin 1 → ℕ} (hoff : off = ![16 * k.val])
    (inb : ∀ a, off a + S16.size a ≤ S1024.size a) (hl : acc.view.LoadsAt (Rect.unit (s := S1024) off S16.size inb).toLoadRect)
    (κ : Vec F S16 .f32 → Prog (TpuEff nD τ sig (Elt F) Λ₀ (th d i).2) PUnit) (Q : PUnit → sProp 𝕄) :
    (acc.view.loc (th d i) ↦{fullShare} f : sProp 𝕄)
      ⊢ iprop(((acc.view.loc (th d i) ↦{fullShare} f)
            -∗ wp frame (wpE (defs₀ (F := F)) 𝒱₀ (th d i) none) Set.univ (κ (accVec A k)) Q)
          -∗ wp frame (wpE (defs₀ (F := F)) 𝒱₀ (th d i) none) Set.univ
              (.op (.load acc (Rect.unit (s := S1024) off S16.size inb).toLoadRect hl) κ) Q) := by
  have hv : acc.view.readAt (Elt F) (Rect.unit (s := S1024) off S16.size inb).toLoadRect f = accVec A k := by
    funext x
    rw [View.readAt_apply, hA]
    subst hoff
    have hx0 : (x 0).val < 16 := (x 0).isLt
    have h0 : (((Rect.unit (s := S1024) ![16 * k.val] S16.size inb).toLoadRect.idx x) 0 : Fin 1024)
        = Fin.ofNat 1024 (16 * k.val + (x 0).val) := by
      refine Fin.ext ?_
      show 16 * k.val + 1 * (x 0).val = (16 * k.val + (x 0).val) % 1024
      have := k.isLt
      omega
    exact congrArg A h0
  rw [← hv]
  exact wp_load 𝒱₀ (th d i) none Set.univ (Finset.subset_univ _)

/-- The running values with block `k` replaced. -/
def setBlock (A : Fin 1024 → F .f32) (k : ℕ) (p : FVec F S16 .f32) : Fin 1024 → F .f32 :=
  fun h => if h.val / 16 = k then p (ix1 (Fin.ofNat 16 h.val)) else A h

/-- A store of one block of the running values. -/
theorem wp_accStore (acc : Memref sig .scVector .vmem S1024 .f32) (f : Buf (Elt F) (acc.view.loc (th d i)))
    (A : Fin 1024 → F .f32) (hA : acc.view.read (Elt F) f = fun x => A (x 0)) (k : Fin 64) {off : Fin 1 → ℕ} (hoff : off = ![16 * k.val])
    (inb : ∀ a, off a + S16.size a ≤ S1024.size a) (p : FVec F S16 .f32)
    (hx : (acc.access (Rect.unit (s := S1024) off S16.size inb)).Stores Finset.univ)
    (hm : (Finset.univ : Finset (Rect.unit (s := S1024) off S16.size inb).shape.Idx) = Finset.univ
      ∨ ∀ a, (Rect.unit (s := S1024) off S16.size inb).stride a = 1)
    (κ : PUnit → Prog (TpuEff nD τ sig (Elt F) Λ₀ (th d i).2) PUnit) (Q : PUnit → sProp 𝕄) :
    (acc.view.loc (th d i) ↦{fullShare} f : sProp 𝕄)
      ⊢ iprop(((∃ f', (acc.view.loc (th d i) ↦{fullShare} f') ∗ ⌜acc.view.read (Elt F) f' = fun x => setBlock A k p (x 0)⌝)
            -∗ wp frame (wpE (defs₀ (F := F)) 𝒱₀ (th d i) none) Set.univ (κ ⟨⟩) Q)
          -∗ wp frame (wpE (defs₀ (F := F)) 𝒱₀ (th d i) none) Set.univ
              (.op (.store acc (Rect.unit (s := S1024) off S16.size inb) p Finset.univ hx hm) κ) Q) := by
  have hv : acc.view.read (Elt F) ((acc.access (Rect.unit (s := S1024) off S16.size inb)).write (Elt F) f p Finset.univ)
      = fun x => setBlock A k p (x 0) := by
    funext x
    subst hoff
    have hx0 : (x 0).val < 1024 := (x 0).isLt
    by_cases hk : (x 0).val / 16 = k.val
    · have hy : (Rect.unit (s := S1024) ![16 * k.val] S16.size inb).emb (ix1 (Fin.ofNat 16 (x 0).val)) = x := by
        funext a
        match a with
        | ⟨0, _⟩ =>
          refine Fin.ext ?_
          show 16 * k.val + 1 * ((x 0).val % 16) = (x 0).val
          omega
      rw [show setBlock A k p (x 0) = p (ix1 (Fin.ofNat 16 (x 0).val)) from if_pos hk]
      conv_lhs => rw [← hy]
      exact View.read_slice_write_emb (v := acc.view) (Rect.unit (s := S1024) ![16 * k.val] S16.size inb) f p (Finset.mem_univ _)
    · rw [show setBlock A k p (x 0) = A (x 0) from if_neg hk]
      refine (View.read_slice_write_of_not_mem (v := acc.view) (Rect.unit (s := S1024) ![16 * k.val] S16.size inb) f p Finset.univ ?_).trans (congrFun hA x)
      intro hmem
      obtain ⟨y, -, hy⟩ := Finset.mem_map.mp hmem
      have h0 : 16 * k.val + 1 * (y 0).val = (x 0).val := congrArg (fun z : S1024.Idx => (z 0).val) hy
      have hy0 : (y 0).val < 16 := (y 0).isLt
      omega
  iintro H HK
  iapply (wp_store (m := acc) (r := Rect.unit (s := S1024) off S16.size inb) (f := f) 𝒱₀ (th d i) none Set.univ (Finset.subset_univ _)) $$ H
  iintro H
  iapply HK
  iexists _
  isplitl [H]
  · iexact H
  · ipureintro; exact hv

/-! ## One loop over the column blocks -/

/-- The running values after a block's first `k` column blocks: the new ones there, the old ones further on. -/
def mix (k : ℕ) (new old : Fin 1024 → F .f32) : Fin 1024 → F .f32 := fun h => if h.val < 16 * k then new h else old h

/-- The running values after block `b`: the rows of `g` summed, the old values `old`, the factors `s`. -/
def newOf (b : Fin 4) (g : Fin 16 → Fin 1024 → F .f32) (s : Fin 16 → F .f32) (old : Fin 1024 → F .f32) : Fin 1024 → F .f32 :=
  fun h => upd b (old h) (tree fun r => g r h) (s (Fin.ofNat 16 h.val))

/-- Writing column block `k`'s new values takes the running values from `k` blocks done to `k + 1`. -/
theorem setBlock_mix (k : ℕ) (hk : k < 64) (new old : Fin 1024 → F .f32) (p : FVec F S16 .f32)
    (hp : ∀ j : Fin 16, p (ix1 j) = new (Fin.ofNat 1024 (16 * k + j.val))) :
    setBlock (mix k new old) k p = mix (k + 1) new old := by
  funext h
  have hh := h.isLt
  unfold setBlock mix
  by_cases h1 : h.val / 16 = k
  · rw [if_pos h1, if_pos (by omega), hp]
    congr 1
    refine Fin.ext ?_
    show (16 * k + h.val % 16) % 1024 = h.val
    omega
  · rw [if_neg h1]
    by_cases h2 : h.val < 16 * k
    · rw [if_pos h2, if_pos (by omega)]
    · rw [if_neg h2, if_neg (by omega)]

/-- Column block `k` of the running values with `k` blocks done is the old values' block. -/
theorem accVec_mix (k : ℕ) (hk : k < 64) (new old : Fin 1024 → F .f32) : accVec (mix k new old) k = accVec old k := by
  funext x
  have hx0 : (x 0).val < 16 := (x 0).isLt
  unfold accVec mix
  rw [if_neg]
  show ¬ (16 * k + (x 0).val) % 1024 < 16 * k
  omega

/-- A loaded row's lanes. -/
theorem lanes_rowVec (g : Fin 16 → Fin 1024 → F .f32) (k : ℕ) (r : Fin 16) (x : S16.Idx) :
    lanes (fun r => rowVec g r k) r x = g r (Fin.ofNat 1024 (16 * k + (x 0).val)) := by
  unfold lanes
  exact shapeCast_dropUnit_apply ![16] (rowVec g r k) shapeCasts_S1x16_S16 x

/-- What a loop over the column blocks holds before trip `k`: the block's buffer, and the running values with `k` blocks done. -/
def inv (buf : Memref sig .scVector .vmem S16x1024 .f32) (acc : Memref sig .scVector .vmem S1024 .f32)
    (g : Fin 16 → Fin 1024 → F .f32) (new old : Fin 1024 → F .f32) (k : ℕ) : sProp 𝕄 :=
  iprop((∃ f, (buf.view.loc (th d i) ↦{fullShare} f) ∗ ⌜buf.view.read (Elt F) f = fun x => g (x 0) (x 1)⌝)
    ∗ ∃ f, (acc.view.loc (th d i) ↦{fullShare} f) ∗ ⌜acc.view.read (Elt F) f = fun x => mix k new old (x 0)⌝)

/-- The closing of a trip: the stored block's values are the new ones. -/
theorem trip_close (b : Fin 4) (buf : Memref sig .scVector .vmem S16x1024 .f32) (acc : Memref sig .scVector .vmem S1024 .f32)
    (f : Buf (Elt F) (buf.view.loc (th d i)))
    (g : Fin 16 → Fin 1024 → F .f32) (hg : buf.view.read (Elt F) f = fun x => g (x 0) (x 1)) (s : Fin 16 → F .f32)
    (old : Fin 1024 → F .f32) (k : ℕ) (hk : k < 64) (p : FVec F S16 .f32)
    (hp : ∀ x, p x = upd b (accVec (mix k (newOf b g s old) old) k x) (tree fun r => lanes (fun r => rowVec g r k) r x) (s (x 0))) :
    iprop((buf.view.loc (th d i) ↦{fullShare} f)
        ∗ ∃ f', (acc.view.loc (th d i) ↦{fullShare} f')
            ∗ ⌜acc.view.read (Elt F) f' = fun x => setBlock (mix k (newOf b g s old) old) k p (x 0)⌝)
      ⊢ (inv d i buf acc g (newOf b g s old) old (k + 1) : sProp 𝕄) := by
  unfold inv
  iintro ⟨Hb, ⟨%fa', Ha, %hA'⟩⟩
  isplitl [Hb]
  · iexists f; isplitl [Hb]
    · iexact Hb
    · ipureintro; exact hg
  · iexists fa'; isplitl [Ha]
    · iexact Ha
    · ipureintro
      rw [hA', setBlock_mix k hk]
      intro j
      rw [hp, accVec_mix k hk]
      unfold newOf
      simp only [lanes_rowVec]
      congr 2
      refine Fin.ext ?_
      show j.val = (16 * k + j.val) % 1024 % 16
      have := j.isLt
      omega

/-- A trip that adds to the running values, whatever the payload, given its value. -/
theorem trip2 (b : Fin 4) (buf : Memref sig .scVector .vmem S16x1024 .f32) (acc : Memref sig .scVector .vmem S1024 .f32)
    (g : Fin 16 → Fin 1024 → F .f32) (s : Fin 16 → F .f32) (old : Fin 1024 → F .f32) (k : Fin k0_t2_loop.trips)
    (p : (Fin 16 → Vec F S1x16 .f32) → Vec F S16 .f32 → FVec F S16 .f32)
    (hp : ∀ v a x, p v a x = upd b (a x) (tree fun r => lanes v r x) (s (x 0))) :
    inv d i buf acc g (newOf b g s old) old k.val
      ⊢ wp frame (wpE (defs₀ (F := F)) 𝒱₀ (th d i) none) Set.univ (rowsProg d i buf k fun v => accProg2 d i acc k (p v))
          (fun _ => inv d i buf acc g (newOf b g s old) old (k.val + 1)) := by
  conv_lhs => unfold inv
  iintro ⟨⟨%f, Hb, %hg⟩, ⟨%fa, Ha, %hA⟩⟩
  iapply (wp_rows d i buf f g hg k _ _) $$ Hb; iintro Hb
  unfold accProg2
  simp only [Prog.lift, Prog.bind_op, Prog.bind_ret, Prog.pure_eq_ret]
  iapply (wp_accLoad d i acc fa _ hA k (k0_off22_eq k) _ _ _ _) $$ Ha; iintro Ha
  iapply (wp_accLoad d i acc fa _ hA k (k0_off22_eq k) _ _ _ _) $$ Ha; iintro Ha
  iapply (wp_accStore d i acc fa _ hA k (k0_off22_eq k) _ _ _ _ _ _) $$ Ha
  iintro Ha
  rw [wp_ret]
  imodintro
  iapply (trip_close d i b buf acc f g hg s old k.val k.isLt _ (fun x => hp _ _ x))
  isplitl [Hb] <;> iassumption

/-- A trip that starts the running values, whatever the payload, given its value. -/
theorem trip1 (buf : Memref sig .scVector .vmem S16x1024 .f32) (acc : Memref sig .scVector .vmem S1024 .f32)
    (g : Fin 16 → Fin 1024 → F .f32) (s : Fin 16 → F .f32) (old : Fin 1024 → F .f32) (k : Fin k0_t2_loop.trips)
    (p : (Fin 16 → Vec F S1x16 .f32) → FVec F S16 .f32)
    (hp : ∀ v x, p v x = tree fun r => lanes v r x) :
    inv d i buf acc g (newOf 0 g s old) old k.val
      ⊢ wp frame (wpE (defs₀ (F := F)) 𝒱₀ (th d i) none) Set.univ (rowsProg d i buf k fun v => accProg1 d i acc k (p v))
          (fun _ => inv d i buf acc g (newOf 0 g s old) old (k.val + 1)) := by
  conv_lhs => unfold inv
  iintro ⟨⟨%f, Hb, %hg⟩, ⟨%fa, Ha, %hA⟩⟩
  iapply (wp_rows d i buf f g hg k _ _) $$ Hb; iintro Hb
  unfold accProg1
  simp only [Prog.lift, Prog.bind_op, Prog.bind_ret, Prog.pure_eq_ret]
  iapply (wp_accLoad d i acc fa _ hA k (k0_off22_eq k) _ _ _ _) $$ Ha; iintro Ha
  iapply (wp_accStore d i acc fa _ hA k (k0_off22_eq k) _ _ _ _ _ _) $$ Ha
  iintro Ha
  rw [wp_ret]
  imodintro
  iapply (trip_close d i 0 buf acc f g hg s old k.val k.isLt _ (fun x => hp _ x))
  isplitl [Hb] <;> iassumption

/-! ## The four loops' trips -/

/-- The first block's trip starts the running values. -/
theorem t2_trip (w1 w2 w3 : BitVec 32) (k1 : Fin k0_t1_loop.trips)
    (g : Fin 16 → Fin 1024 → F .f32) (s : Fin 16 → F .f32) (old : Fin 1024 → F .f32) (k : Fin k0_t2_loop.trips) (u : Unit) :
    inv d i arg5 arg9 g (newOf 0 g s old) old k.val
      ⊢ wp frame (wpE (defs₀ (F := F)) 𝒱₀ (th d i) none) Set.univ
          (k0_t2_body (F := F) i arg2 harg2 arg3 harg3 arg4 harg4 arg5 harg5 arg6 harg6 arg7 harg7 arg8 harg8 arg9 harg9 arg10 harg10 arg11 arg12 arg13 arg14 arg15 v21 w1 w2 w3 k1 k u)
          (fun _ => inv d i arg5 arg9 g (newOf 0 g s old) old (k.val + 1)) :=
  trip1 d i arg5 arg9 g s old k (fun v => k0_pay46 (lanes v 0) (lanes v 1) (lanes v 2) (lanes v 3) (lanes v 4) (lanes v 5) (lanes v 6)
    (lanes v 7) (lanes v 8) (lanes v 9) (lanes v 10) (v 11) (v 12) (v 13) (v 14) (v 15)) fun v x => by
      unfold k0_pay46; simp only [shapeCast_self]; rfl

/-- The second block's trip adds to them. -/
theorem t3_trip (w1 w2 w3 : BitVec 32) (k1 : Fin k0_t1_loop.trips)
    (g : Fin 16 → Fin 1024 → F .f32) (s : Fin 16 → F .f32) (old : Fin 1024 → F .f32) (k : Fin k0_t3_loop.trips) (u : Unit) :
    inv d i arg6 arg9 g (newOf 1 g s old) old k.val
      ⊢ wp frame (wpE (defs₀ (F := F)) 𝒱₀ (th d i) none) Set.univ
          (k0_t3_body (F := F) i arg2 harg2 arg3 harg3 arg4 harg4 arg5 harg5 arg6 harg6 arg7 harg7 arg8 harg8 arg9 harg9 arg10 harg10 arg11 arg12 arg13 arg14 arg15 v21 w1 w2 w3 k1 k u)
          (fun _ => inv d i arg6 arg9 g (newOf 1 g s old) old (k.val + 1)) :=
  trip2 d i 1 arg6 arg9 g s old k (fun v => k0_pay48 (lanes v 8) (lanes v 9) (lanes v 10) (v 11) (v 12) (v 13) (v 14) (v 15)
    (k0_pay47 (lanes v 0) (lanes v 1) (lanes v 2) (lanes v 3) (lanes v 4) (lanes v 5) (lanes v 6) (lanes v 7))) fun v a x => by
      unfold k0_pay48; simp only [shapeCast_self]; rfl

/-- The third block's trip adds to them. -/
theorem t4_trip
    (g : Fin 16 → Fin 1024 → F .f32) (s : Fin 16 → F .f32) (old : Fin 1024 → F .f32) (k : Fin k0_t4_loop.trips) (u : Unit) :
    inv d i arg7 arg9 g (newOf 2 g s old) old k.val
      ⊢ wp frame (wpE (defs₀ (F := F)) 𝒱₀ (th d i) none) Set.univ
          (k0_t4_body (F := F) i arg2 harg2 arg3 harg3 arg4 harg4 arg5 harg5 arg6 harg6 arg7 harg7 arg8 harg8 arg9 harg9 arg10 harg10 arg11 arg12 arg13 arg14 arg15 v21 k u)
          (fun _ => inv d i arg7 arg9 g (newOf 2 g s old) old (k.val + 1)) :=
  trip2 d i 2 arg7 arg9 g s old k (fun v => k0_pay50 (lanes v 8) (lanes v 9) (lanes v 10) (v 11) (v 12) (v 13) (v 14) (v 15)
    (k0_pay49 (lanes v 0) (lanes v 1) (lanes v 2) (lanes v 3) (lanes v 4) (lanes v 5) (lanes v 6) (lanes v 7))) fun v a x => by
      unfold k0_pay50; simp only [shapeCast_self]; rfl

/-- The fourth block's trip adds to them and scales the sum. -/
theorem t5_trip
    (g : Fin 16 → Fin 1024 → F .f32) (s : FVec F S16 .f32) (old : Fin 1024 → F .f32) (k : Fin k0_t5_loop.trips) (u : Unit) :
    inv d i arg8 arg9 g (newOf 3 g (fun j => s (ix1 j)) old) old k.val
      ⊢ wp frame (wpE (defs₀ (F := F)) 𝒱₀ (th d i) none) Set.univ
          (k0_t5_body (F := F) i arg2 harg2 arg3 harg3 arg4 harg4 arg5 harg5 arg6 harg6 arg7 harg7 arg8 harg8 arg9 harg9 arg10 harg10 arg11 arg12 arg13 arg14 arg15 v21 s k u)
          (fun _ => inv d i arg8 arg9 g (newOf 3 g (fun j => s (ix1 j)) old) old (k.val + 1)) :=
  trip2 d i 3 arg8 arg9 g _ old k (fun v => k0_pay52 s (lanes v 8) (lanes v 9) (lanes v 10) (v 11) (v 12) (v 13) (v 14) (v 15)
    (k0_pay51 (lanes v 0) (lanes v 1) (lanes v 2) (lanes v 3) (lanes v 4) (lanes v 5) (lanes v 6) (lanes v 7))) fun v a x => by
      have hx : s x = s (ix1 (x 0)) := congrArg s (ValueIdx.eq_ix1 x)
      unfold k0_pay52; simp only [shapeCast_self]
      show FloatOps.mulf _ (s x) = FloatOps.mulf _ (s (ix1 (x 0)))
      rw [hx]; rfl

end Cert.Proof.KernelIdeal
end
-- ==== Proof.Copy.lean ====
/-
  The tile's copies. A buffer is idle (`Idle`), being filled (`Busy`), or holds what was copied into it (`Landed`); `wp_start`
  starts a copy from a rectangle of an array into a buffer, `wp_await` waits for it. `rows` names rows of the result; a copy of
  the running values to a row of the result is started by `wp_startOut` and awaited by `wp_awaitOut`, which gives the row back
  at the result's values.
-/
module

public import proofs.«01_k».proof.Proof.Trip
public import Idealize.ShloMosaic.Lib.ViewIndex

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

variable (d : Dev nD) (i : grid0.Coords)

/-! ## A copy from a shared array into a buffer of the tile's -/

/-- The buffer holds the values `v`. -/
def Landed {s : Shape} (buf : Memref sig .scVector .vmem s .f32) (v : s.Idx → F .f32) : sProp 𝕄 :=
  iprop(∃ f, (buf.view.loc (th d i) ↦{fullShare} f) ∗ ⌜buf.view.read (Elt F) f = v⌝)

variable {s₀ s : Shape}

/-- A copy into the buffer is under way on the semaphore: it will leave the values `v` there; the rest of the source's share is held meanwhile. -/
def Busy (a : Memref sig .scVector .hbm s₀ .f32) (q : PosShare TreeShare) (X : Buf (Elt F) (a.view.loc (th d i)))
    (buf : Memref sig .scVector .vmem s .f32) (sm : DmaSem sig) (v : s.Idx → F .f32) : sProp 𝕄 :=
  iprop(∃ S, Transfers.Flight countersEmb (th d i) (.dma sm) none buf.view.dmaCredit
      iprop(Landed d i buf v ∗ (a.view.loc (th d i) ↦[S]{q} X)) ∗ (a.view.loc (th d i) ↦[Finset.univ \ S]{q} X))

/-- No copy is under way: the buffer, the semaphore at zero and the source's share are held. -/
def Idle (a : Memref sig .scVector .hbm s₀ .f32) (q : PosShare TreeShare) (X : Buf (Elt F) (a.view.loc (th d i)))
    (buf : Memref sig .scVector .vmem s .f32) (sm : DmaSem sig) : sProp 𝕄 :=
  iprop((∃ f, buf.view.loc (th d i) ↦{fullShare} f) ∗ semVal (th d i, SemLoc.dma sm) 0 ∗ (a.view.loc (th d i) ↦{q} X))

/-- Starting a copy of a rectangle of the array. -/
theorem wp_start (a : Memref sig .scVector .hbm s₀ .f32) (q : PosShare TreeShare) (X : Buf (Elt F) (a.view.loc (th d i)))
    (r : Rect s₀) (hr : ∀ x, r.stride x = 1) (buf : Memref sig .scVector .vmem r.shape .f32) (sm : DmaSem sig) (hn : 0 < r.shape.numel)
    (v : r.shape.Idx → F .f32) (hv : (fun x => a.view.read (Elt F) X (r.emb x)) = v)
    (hsrc : (a.slice r hr).view.WordExact) (hdst : buf.view.WordExact) (hsem : DmaTarget.Typed .hbm (.dma sm) (DmaTarget.here (nD := nD) (τ := τ) (p := (th d i).2) buf))
    {α : Type} (κ : PUnit → Prog (TpuEff nD τ sig (Elt F) Λ₀ (th d i).2) α) (Q : α → sProp 𝕄) :
    Idle d i a q X buf sm
      ⊢ iprop((Busy d i a q X buf sm v -∗ wp frame (wpE (defs₀ (F := F)) 𝒱₀ (th d i) none) Set.univ (κ ⟨⟩) Q)
          -∗ wp frame (wpE (defs₀ (F := F)) 𝒱₀ (th d i) none) Set.univ
              (.op (.enqueueDma (a.slice r hr) (.here buf) (.dma sm) hsrc hdst hsem) κ) Q) := by
  unfold Idle
  iintro ⟨⟨%f, Hb⟩, Hs, Ha⟩ HK
  ihave Ha' := (pointsTo_split_subset (Finset.subset_univ (a.slice r hr).view.set)).1 $$ Ha
  icases Ha' with ⟨Hsl, Hrest⟩
  iapply (Transfers.wp_dmaLocal countersEmb 𝒱₀ (th d i) none (none : HIx 1) buf.view.dmaCredit rfl (View.dmaCredit_pos _ hn)
    (Finset.subset_univ _) (src := a.slice r hr) (fs := X) (q := q) (fd := f)) $$ [Hsl Hb Hs]
  · isplitl [Hsl]; · iexact Hsl
    isplitl [Hb] <;> iassumption
  iintro Hf
  iapply HK
  unfold Busy
  iexists (a.slice r hr).view.set
  isplitl [Hf]
  · iapply (Transfers.Flight_mono countersEmb (th d i) ?_) $$ Hf
    iintro ⟨Hb, Hsl⟩
    isplitl [Hb]
    · unfold Landed
      iexists _
      isplitl [Hb]
      · iexact Hb
      · ipureintro
        rw [View.read_write_univ]
        exact hv
    · iexact Hsl
  · iexact Hrest

/-- What the tile owes, and the waits recorded since `W`: all of them at the kernel's own index. -/
def Owing (O : CellTallies nD τ sig (HIx 1)) (W : Waits sig (HIx 1)) : sProp 𝕄 :=
  iprop(∃ W', ⌜∀ p ∈ W', p ∈ W ∨ p.2 = none⌝ ∗ owes (th d i) O W')

theorem Owing_insert (O : CellTallies nD τ sig (HIx 1)) (W W' : Waits sig (HIx 1)) (sm : SemLoc sig) (h : ∀ p ∈ W', p ∈ W ∨ p.2 = none) :
    (owes (th d i) O (insert (sm, none) W') : sProp 𝕄) ⊢ Owing d i O W := by
  unfold Owing
  iintro H
  iexists (insert (sm, none) W')
  isplitr [H]
  · ipureintro
    intro p hp
    rcases Finset.mem_insert.mp hp with hp | hp
    · exact .inr (congrArg Prod.snd hp)
    · exact h p hp
  · iexact H

/-- Waiting for a copy into the buffer. -/
theorem wp_await (a : Memref sig .scVector .hbm s₀ .f32) (q : PosShare TreeShare) (X : Buf (Elt F) (a.view.loc (th d i)))
    (buf : Memref sig .scVector .vmem s .f32) (sm : DmaSem sig) (v : s.Idx → F .f32) (O : CellTallies nD τ sig (HIx 1)) (W : Waits sig (HIx 1))
    (srcw : Memref sig .scVector .hbm s .f32) (hsrc : srcw.view.WordExact) (hdst : buf.view.WordExact)
    {α : Type} (κ : PUnit → Prog (TpuEff nD τ sig (Elt F) Λ₀ (th d i).2) α) (Q : α → sProp 𝕄) :
    iprop(Busy d i a q X buf sm v ∗ Owing d i O W ∗ Transfers.MayWaits (th d i) none O)
      ⊢ iprop((iprop(Landed d i buf v ∗ semVal (th d i, SemLoc.dma sm) 0 ∗ (a.view.loc (th d i) ↦{q} X) ∗ Owing d i O W)
            -∗ wp frame (wpE (defs₀ (F := F)) 𝒱₀ (th d i) none) Set.univ (κ ⟨⟩) Q)
          -∗ wp frame (wpE (defs₀ (F := F)) 𝒱₀ (th d i) none) Set.univ (.op (.waitDma2 sm srcw buf hsrc hdst) κ) Q) := by
  unfold Busy
  conv_lhs => unfold Owing
  iintro ⟨⟨%S, Hf, Hrest⟩, ⟨%W', %hW, HO⟩, Hmw⟩ HK
  ihave Hm := (Transfers.MayWaits.elim (SemLoc.dma sm)) $$ Hmw
  iapply (Transfers.wp_waitLocalO countersEmb 𝒱₀ (th d i) none (none : HIx 1) rfl) $$ [Hf HO Hm]
  · isplitl [Hf]; · iexact Hf
    isplitl [HO] <;> iassumption
  iintro ⟨⟨Hl, Hsl⟩, Hs, HO⟩
  iapply HK
  isplitl [Hl]; · iexact Hl
  isplitl [Hs]; · iexact Hs
  isplitl [Hsl Hrest]
  · iapply (pointsTo_split_subset (Finset.subset_univ S)).2
    isplitl [Hsl] <;> iassumption
  · iapply (Owing_insert d i O W W' _ hW) $$ HO

/-! ## A copy of the running values to a row of the result -/

/-- Rows `a` to `b` of the result, as elements of its buffer. -/
def rows (o : Memref sig .scVector .hbm S1024x1024 .f32) (a b : ℕ) : Finset (Idx (o.view.loc (th d i))) :=
  ((Finset.univ : Finset S1024x1024.Idx).filter fun x => a ≤ (x 0).val ∧ (x 0).val < b).map o.view.emb

theorem rows_union (o : Memref sig .scVector .hbm S1024x1024 .f32) {a b c : ℕ} (hab : a ≤ b) (hbc : b ≤ c) :
    rows d i o a b ∪ rows d i o b c = rows d i o a c := by
  unfold rows
  rw [← Finset.map_union]
  congr 1
  ext x
  simp only [Finset.mem_union, Finset.mem_filter, Finset.mem_univ, true_and]
  omega

theorem rows_disjoint (o : Memref sig .scVector .hbm S1024x1024 .f32) {a b c e : ℕ} (h : b ≤ c) :
    Disjoint (rows d i o a b) (rows d i o c e) := by
  unfold rows
  rw [Finset.disjoint_map]
  rw [Finset.disjoint_left]
  intro x hx hy
  simp only [Finset.mem_filter, Finset.mem_univ, true_and] at hx hy
  omega

theorem rows_empty (o : Memref sig .scVector .hbm S1024x1024 .f32) {a b : ℕ} (h : b ≤ a) : rows d i o a b = ∅ := by
  unfold rows
  rw [Finset.map_eq_empty, Finset.filter_eq_empty_iff]
  intro x _ hx
  omega

/-- The row of the result a copy writes to. -/
abbrev rowOf (o : Memref sig .scVector .hbm S1024x1024 .f32) (off : Fin 2 → ℕ) (inb : ∀ a, off a + S1x1024.size a ≤ S1024x1024.size a) :
    Memref sig .scVector .hbm S1024 .f32 :=
  (o.slice (Rect.unit (s := S1024x1024) off S1x1024.size inb) (fun _ => rfl)).squeeze S1024 squeezes_S1x1024_S1024

theorem rowOf_set (o : Memref sig .scVector .hbm S1024x1024 .f32) {off : Fin 2 → ℕ} (R : ℕ) (hoff : off = ![R, 0])
    (inb : ∀ a, off a + S1x1024.size a ≤ S1024x1024.size a) : (rowOf o off inb).view.set = rows d i o R (R + 1) := by
  subst hoff
  unfold rows
  show ((o.view.slice (Rect.unit (s := S1024x1024) ![R, 0] S1x1024.size inb)).reshape S1024 _).set = _
  rw [View.set_reshape, View.set_slice]
  congr 1
  ext x
  rw [LoadRect.mem_set]
  simp only [Finset.mem_filter, Finset.mem_univ, true_and]
  constructor
  · intro h
    obtain ⟨j, hj, h0⟩ := h 0
    have hj' : j < 1 := hj
    have h0' : (x 0).val = R + 1 * j := h0
    omega
  · intro h a
    match a with
    | ⟨0, _⟩ => exact ⟨0, Nat.one_pos, by show (x 0).val = R + 1 * 0; omega⟩
    | ⟨1, _⟩ => exact ⟨(x 1).val, (x 1).isLt, by show (x 1).val = 0 + 1 * (x 1).val; omega⟩

/-- Reading that row is reading the result's values there. -/
theorem rowOf_read (o : Memref sig .scVector .hbm S1024x1024 .f32) {off : Fin 2 → ℕ} (R : Fin 1024) (hoff : off = ![R.val, 0])
    (inb : ∀ a, off a + S1x1024.size a ≤ S1024x1024.size a) (f : Buf (Elt F) (o.view.loc (th d i))) (v : Fin 1024 → Fin 1024 → F .f32)
    (hv : o.view.read (Elt F) f = fun x => v (x 0) (x 1)) :
    (rowOf o off inb).view.read (Elt F) f = fun x => v R (x 0) := by
  subst hoff
  funext x
  have h := shapeCast_dropUnit_apply ![1024]
    (fun y : S1x1024.Idx => o.view.read (Elt F) f ((Rect.unit (s := S1024x1024) ![R.val, 0] S1x1024.size inb).emb y)) (by decide) x
  refine Eq.trans (b := shapeCast S1024 (fun y : S1x1024.Idx => o.view.read (Elt F) f ((Rect.unit (s := S1024x1024) ![R.val, 0] S1x1024.size inb).emb y)) (by decide) x) rfl (h.trans ?_)
  rw [hv]
  refine congrArg₂ v (Fin.ext ?_) (Fin.ext ?_)
  · show R.val + 1 * 0 = R.val; omega
  · show 0 + 1 * (x 0).val = (x 0).val; omega

/-- Contents that a view reads alike agree on the view's elements. -/
theorem eq_on_of_read {sp : Space} {s : Shape} {v : View sig .scVector sp s .f32} {f g : v.ty.Contents (Elt F)}
    (h : v.read (Elt F) f = v.read (Elt F) g) : ∀ x ∈ v.set, f x = g x := by
  intro x hx
  obtain ⟨y, -, rfl⟩ := Finset.mem_map.mp hx
  exact View.eq_of_read_eq (congrFun h y)

/-- A copy of the running values to row `R` is under way: it will leave the result's final values there. -/
def OutBusy (o : Memref sig .scVector .hbm S1024x1024 .f32) (out : Buf (Elt F) (o.view.loc (th d i)))
    (acc : Memref sig .scVector .vmem S1024 .f32) (sm : DmaSem sig) (N : ℕ) (R : ℕ) : sProp 𝕄 :=
  Transfers.Flight countersEmb (th d i) (.dma sm) none N
    iprop((o.view.loc (th d i) ↦[rows d i o R (R + 1)]{fullShare} out) ∗ ∃ f, acc.view.loc (th d i) ↦{fullShare} f)

/-- Starting a copy of a whole buffer to a part of an array, when the buffer holds what `out` holds there. -/
theorem wp_startTo (dst : Memref sig .scVector .hbm s .f32) (f₀ out : Buf (Elt F) (dst.view.loc (th d i)))
    (acc : Memref sig .scVector .vmem s .f32) (hacc : acc.IsWhole) (sm : DmaSem sig) (hn : 0 < s.numel) (v : s.Idx → F .f32)
    (hv : dst.view.read (Elt F) out = v) (hsrc : acc.view.WordExact) (hdst : dst.view.WordExact)
    (hsem : DmaTarget.Typed .vmem (.dma sm) (DmaTarget.here (nD := nD) (τ := τ) (p := (th d i).2) dst))
    {α : Type} (κ : PUnit → Prog (TpuEff nD τ sig (Elt F) Λ₀ (th d i).2) α) (Q : α → sProp 𝕄) :
    iprop(Landed d i acc v ∗ (dst.view.loc (th d i) ↦[dst.view.set]{fullShare} f₀) ∗ semVal (th d i, SemLoc.dma sm) 0)
      ⊢ iprop((Transfers.Flight countersEmb (th d i) (.dma sm) none dst.view.dmaCredit
              iprop((dst.view.loc (th d i) ↦[dst.view.set]{fullShare} out) ∗ ∃ f, acc.view.loc (th d i) ↦{fullShare} f)
            -∗ wp frame (wpE (defs₀ (F := F)) 𝒱₀ (th d i) none) Set.univ (κ ⟨⟩) Q)
          -∗ wp frame (wpE (defs₀ (F := F)) 𝒱₀ (th d i) none) Set.univ
              (.op (.enqueueDma acc (.here dst) (.dma sm) hsrc hdst hsem) κ) Q) := by
  have hset : acc.view.set = Finset.univ := hacc.set_eq_univ
  unfold Landed
  iintro ⟨⟨%f, Ha, %hf⟩, Ho, Hs⟩ HK
  iapply (Transfers.wp_dmaLocal countersEmb 𝒱₀ (th d i) none (none : HIx 1) dst.view.dmaCredit rfl
    (View.dmaCredit_pos _ hn) (Finset.Subset.refl _) (src := acc) (fs := f) (q := fullShare) (fd := f₀)) $$ [Ha Ho Hs]
  · isplitl [Ha]
    · rw [hset]; iexact Ha
    isplitl [Ho] <;> iassumption
  iintro Hf
  iapply HK
  iapply (Transfers.Flight_mono countersEmb (th d i) ?_) $$ Hf
  have hnew : ∀ x ∈ dst.view.set, dst.view.write (Elt F) f₀ (acc.view.read (Elt F) f) Finset.univ x = out x := by
    refine eq_on_of_read ?_
    rw [View.read_write_univ, hv]
    exact hf
  iintro ⟨Ho, Ha⟩
  isplitl [Ho]
  · iapply (Entails.of_eq (pointsTo_congr (ℓ := dst.view.loc (th d i)) hnew)) $$ Ho
  · iexists f
    rw [hset]
    iexact Ha

/-- Starting the copy of the running values to row `R`, when they are the result's values there. -/
theorem wp_startOut (o : Memref sig .scVector .hbm S1024x1024 .f32) (f₀ out : Buf (Elt F) (o.view.loc (th d i)))
    (acc : Memref sig .scVector .vmem S1024 .f32) (hacc : acc.IsWhole) (sm : DmaSem sig) {off : Fin 2 → ℕ} (R : Fin 1024) (hoff : off = ![R.val, 0])
    (inb : ∀ a, off a + S1x1024.size a ≤ S1024x1024.size a) (v : Fin 1024 → Fin 1024 → F .f32)
    (hv : o.view.read (Elt F) out = fun x => v (x 0) (x 1))
    (hsrc : acc.view.WordExact) (hdst : (rowOf o off inb).view.WordExact)
    (hsem : DmaTarget.Typed .vmem (.dma sm) (DmaTarget.here (nD := nD) (τ := τ) (p := (th d i).2) (rowOf o off inb)))
    {α : Type} (κ : PUnit → Prog (TpuEff nD τ sig (Elt F) Λ₀ (th d i).2) α) (Q : α → sProp 𝕄) :
    iprop(Landed d i acc (fun x => v R (x 0)) ∗ (o.view.loc (th d i) ↦[rows d i o R.val (R.val + 1)]{fullShare} f₀) ∗ semVal (th d i, SemLoc.dma sm) 0)
      ⊢ iprop((OutBusy d i o out acc sm (rowOf o off inb).view.dmaCredit R.val -∗ wp frame (wpE (defs₀ (F := F)) 𝒱₀ (th d i) none) Set.univ (κ ⟨⟩) Q)
          -∗ wp frame (wpE (defs₀ (F := F)) 𝒱₀ (th d i) none) Set.univ
              (.op (.enqueueDma acc (.here (rowOf o off inb)) (.dma sm) hsrc hdst hsem) κ) Q) := by
  have h := wp_startTo d i (rowOf o off inb) f₀ out acc hacc sm (by decide) _ (rowOf_read d i o R hoff inb out v hv) hsrc hdst hsem κ Q
  unfold OutBusy
  rw [← rowOf_set d i o R.val hoff inb]
  exact h

/-- Waiting for the copy to a row of the result. -/
theorem wp_awaitOut (o : Memref sig .scVector .hbm S1024x1024 .f32) (out : Buf (Elt F) (o.view.loc (th d i)))
    (acc : Memref sig .scVector .vmem S1024 .f32) (sm : DmaSem sig) (R : ℕ) (O : CellTallies nD τ sig (HIx 1)) (W : Waits sig (HIx 1))
    {N : ℕ} (dst : Memref sig .scVector .hbm S1024 .f32) (hN : dst.view.dmaCredit = N) (hsrc : acc.view.WordExact) (hdst : dst.view.WordExact)
    {α : Type} (κ : PUnit → Prog (TpuEff nD τ sig (Elt F) Λ₀ (th d i).2) α) (Q : α → sProp 𝕄) :
    iprop(OutBusy d i o out acc sm N R ∗ Owing d i O W ∗ Transfers.MayWaits (th d i) none O)
      ⊢ iprop((iprop((o.view.loc (th d i) ↦[rows d i o R (R + 1)]{fullShare} out) ∗ (∃ f, acc.view.loc (th d i) ↦{fullShare} f)
              ∗ semVal (th d i, SemLoc.dma sm) 0 ∗ Owing d i O W)
            -∗ wp frame (wpE (defs₀ (F := F)) 𝒱₀ (th d i) none) Set.univ (κ ⟨⟩) Q)
          -∗ wp frame (wpE (defs₀ (F := F)) 𝒱₀ (th d i) none) Set.univ (.op (.waitDma2 sm acc dst hsrc hdst) κ) Q) := by
  unfold OutBusy
  conv_lhs => unfold Owing
  iintro ⟨Hf, ⟨%W', %hW, HO⟩, Hmw⟩ HK
  ihave Hm := (Transfers.MayWaits.elim (SemLoc.dma sm)) $$ Hmw
  iapply (Transfers.wp_waitLocalO countersEmb 𝒱₀ (th d i) none (none : HIx 1) hN) $$ [Hf HO Hm]
  · isplitl [Hf]; · iexact Hf
    isplitl [HO] <;> iassumption
  iintro ⟨⟨Ho, Ha⟩, Hs, HO⟩
  iapply HK
  isplitl [Ho]; · iexact Ho
  isplitl [Ha]; · iexact Ha
  isplitl [Hs]; · iexact Hs
  iapply (Owing_insert d i O W W' _ hW) $$ HO

end Cert.Proof.KernelIdeal
end
-- ==== Proof.Tile.lean ====
/-
  A tile's whole program: the group loop over the four block loops. The invariant `outer` says that before group `k` the four
  blocks of rows of group `k` are on their way into the four buffers, that the row of the result of group `k - 1` is on its way
  out, that the rows before it hold the result's values and the rows from group `k` on are untouched. `wp_tile` gives a tile's
  thirty-two rows of the result at `outRow`, the sum of a group's sixty-four rows times the group's factor, in the kernel's order.
-/
module

public import proofs.«01_k».proof.Proof.Copy

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

variable (d : Dev nD) (i : grid0.Coords)

/-! ## One block of a group: wait for its rows, add them up, ask for the next group's -/

/-- Waiting for the block's copy, the loop over the column blocks, and the next copy when there is a next group. -/
def blockProg {α : Type} (a : Memref sig .scVector .hbm S65536x1024 .f32) (srcw : Memref sig .scVector .hbm S16x1024 .f32)
    (buf : Memref sig .scVector .vmem S16x1024 .f32) (hbuf : buf.IsWhole) (sm : DmaSem sig)
    (body : Fin k0_t2_loop.trips → Unit → Prog (TpuEff nD τ sig (Elt F) Λ₀ (th d i).2) Unit)
    (c : BitVec 1) (off : Fin 2 → ℕ) (inb : c = 1#1 → ∀ x, off x + S16x1024.size x ≤ S65536x1024.size x)
    (κ : Unit → Prog (TpuEff nD τ sig (Elt F) Λ₀ (th d i).2) α) : Prog (TpuEff nD τ sig (Elt F) Λ₀ (th d i).2) α := do
  Prog.lift (.waitDma2 sm srcw buf (View.wordExact_bits rfl) hbuf.wordExact)
  Scf.Loop.for k0_t2_loop k0_t2_ok ⟨⟩ body
  if h : c = 1#1 then do
    Prog.lift (.enqueueDma (a.slice (Rect.unit (s := S65536x1024) off S16x1024.size (inb h)) (fun _ => rfl)) (.here buf) (.dma sm)
      (View.wordExact_bits rfl) hbuf.wordExact ⟨Or.inl rfl, trivial⟩)
    pure ⟨⟩
  else pure ⟨⟩
  κ ⟨⟩

theorem mix_zero (new old : Fin 1024 → F .f32) : mix 0 new old = old := by
  funext h; unfold mix; simp

theorem mix_all (new old : Fin 1024 → F .f32) : mix 64 new old = new := by
  funext h; unfold mix; exact if_pos (by have := h.isLt; omega)

/-- One block, from its copy under way to the running values it makes and the next copy under way. -/
theorem wp_block {α : Type} (a : Memref sig .scVector .hbm S65536x1024 .f32) (q : PosShare TreeShare) (X : Buf (Elt F) (a.view.loc (th d i)))
    (srcw : Memref sig .scVector .hbm S16x1024 .f32) (buf : Memref sig .scVector .vmem S16x1024 .f32) (hbuf : buf.IsWhole) (sm : DmaSem sig)
    (acc : Memref sig .scVector .vmem S1024 .f32)
    (body : Fin k0_t2_loop.trips → Unit → Prog (TpuEff nD τ sig (Elt F) Λ₀ (th d i).2) Unit)
    (g g' : Fin 16 → Fin 1024 → F .f32) (new old : Fin 1024 → F .f32)
    (hbody : ∀ k u, inv d i buf acc g new old k.val
      ⊢ wp frame (wpE (defs₀ (F := F)) 𝒱₀ (th d i) none) Set.univ (body k u) (fun _ => inv d i buf acc g new old (k.val + 1)))
    (c : BitVec 1) (off : Fin 2 → ℕ) (inb : c = 1#1 → ∀ x, off x + S16x1024.size x ≤ S65536x1024.size x)
    (hoff : ∀ h, (fun x => a.view.read (Elt F) X ((Rect.unit (s := S65536x1024) off S16x1024.size (inb h)).emb x)) = fun x : S16x1024.Idx => g' (x 0) (x 1))
    (O : CellTallies nD τ sig (HIx 1)) (W : Waits sig (HIx 1))
    (κ : Unit → Prog (TpuEff nD τ sig (Elt F) Λ₀ (th d i).2) α) (Q : α → sProp 𝕄) :
    iprop(Busy d i a q X buf sm (fun x => g (x 0) (x 1)) ∗ Landed d i acc (fun x => old (x 0)) ∗ Owing d i O W ∗ Transfers.MayWaits (th d i) none O)
      ⊢ iprop((iprop((if c = 1#1 then Busy d i a q X buf sm (fun x => g' (x 0) (x 1)) else Idle d i a q X buf sm)
              ∗ Landed d i acc (fun x => new (x 0)) ∗ Owing d i O W)
            -∗ wp frame (wpE (defs₀ (F := F)) 𝒱₀ (th d i) none) Set.univ (κ ⟨⟩) Q)
          -∗ wp frame (wpE (defs₀ (F := F)) 𝒱₀ (th d i) none) Set.univ (blockProg d i a srcw buf hbuf sm body c off inb κ) Q) := by
  iintro ⟨Hb, Ha, HO, Hmw⟩ HK
  unfold blockProg
  iapply (wp_await d i a q X buf sm (fun x => g (x 0) (x 1)) O W srcw) $$ [Hb HO Hmw]
  · isplitl [Hb]; · iexact Hb
    isplitl [HO] <;> iassumption
  iintro ⟨Hb, Hs, Hx, HO⟩
  iapply (Scf.wp_for_bind frame (wpE (defs₀ (F := F)) 𝒱₀ (th d i) none) Set.univ _ _ _ k0_t2_ok _ body (fun k _ => inv d i buf acc g new old k) hbody) $$ [Hb Ha]
  · unfold inv Landed
    rw [mix_zero]
    isplitl [Hb] <;> iassumption
  iintro %u Hi
  unfold inv
  icases Hi with ⟨⟨%f, Hb, %hf⟩, Ha⟩
  have hm : mix (Scf.trips k0_t2_loop.lb k0_t2_loop.ub k0_t2_loop.st) new old = new := mix_all new old
  rw [hm]
  by_cases h : c = 1#1
  · rw [dif_pos h, if_pos h]
    iapply (wp_start d i a q X (Rect.unit (s := S65536x1024) off S16x1024.size (inb h)) (fun _ => rfl) buf sm (show 0 < S16x1024.numel by decide) _ (hoff h)) $$ [Hb Hs Hx]
    · unfold Idle
      isplitl [Hb]; · iexists f; iexact Hb
      isplitl [Hs] <;> iassumption
    iintro Hb
    iapply HK
    isplitl [Hb]; · iexact Hb
    isplitl [Ha]; · unfold Landed; iexact Ha
    iexact HO
  · rw [dif_neg h, if_neg h]
    iapply HK
    isplitl [Hb Hs Hx]
    · unfold Idle
      isplitl [Hb]; · iexists f; iexact Hb
      isplitl [Hs] <;> iassumption
    isplitl [Ha]; · unfold Landed; iexact Ha
    iexact HO

/-! ## The values a tile computes -/

/-- Row `n` of the features. -/
def feat (a : Memref sig .scVector .hbm S65536x1024 .f32) (X : Buf (Elt F) (a.view.loc (th d i))) (n : ℕ) : Fin 1024 → F .f32 :=
  fun h => a.view.read (Elt F) X (ix2 (Fin.ofNat 65536 n) h)

/-- Row `n` of the factors. -/
def scal (a : Memref sig .scVector .hbm S1024x16 .f32) (C : Buf (Elt F) (a.view.loc (th d i))) (n : ℕ) : Fin 16 → F .f32 :=
  fun j => a.view.read (Elt F) C (ix2 (Fin.ofNat 1024 n) j)

/-- Row `R` of the result: the group's four blocks of sixteen rows summed one after the other, the last sum scaled. -/
def outRow (x : ℕ → Fin 1024 → F .f32) (c : ℕ → Fin 16 → F .f32) (R : ℕ) : Fin 1024 → F .f32 :=
  newOf 3 (fun r h => x (64 * R + 48 + r.val) h) (c R)
    (newOf 2 (fun r h => x (64 * R + 32 + r.val) h) (c R)
      (newOf 1 (fun r h => x (64 * R + 16 + r.val) h) (c R)
        fun h => tree fun r => x (64 * R + r.val) h))

/-- A rectangle of sixteen rows of the features holds those rows. -/
theorem feat_rect (a : Memref sig .scVector .hbm S65536x1024 .f32) (X : Buf (Elt F) (a.view.loc (th d i))) (n : ℕ) {off : Fin 2 → ℕ}
    (hoff : off = ![n, 0]) (inb : ∀ x, off x + S16x1024.size x ≤ S65536x1024.size x) :
    (fun x => a.view.read (Elt F) X ((Rect.unit (s := S65536x1024) off S16x1024.size inb).emb x))
      = fun x : S16x1024.Idx => feat d i a X (n + (x 0).val) (x 1) := by
  subst hoff
  funext x
  have h0 : n + 16 ≤ 65536 := inb 0
  have hx : (x 0).val < 16 := (x 0).isLt
  unfold feat
  refine congrArg (a.view.read (Elt F) X) (Shape.idx_ext₂ ?_ ?_)
  · show n + 1 * (x 0).val = (n + (x 0).val) % 65536
    omega
  · show 0 + 1 * (x 1).val = (x 1).val
    omega

/-- The tile's rectangle of the factors holds its rows. -/
theorem scal_rect (a : Memref sig .scVector .hbm S1024x16 .f32) (C : Buf (Elt F) (a.view.loc (th d i))) (n : ℕ) {off : Fin 2 → ℕ}
    (hoff : off = ![n, 0]) (inb : ∀ x, off x + S32x16.size x ≤ S1024x16.size x) :
    (fun x => a.view.read (Elt F) C ((Rect.unit (s := S1024x16) off S32x16.size inb).emb x))
      = fun x : S32x16.Idx => scal d i a C (n + (x 0).val) (x 1) := by
  subst hoff
  funext x
  have h0 : n + 32 ≤ 1024 := inb 0
  have hx : (x 0).val < 32 := (x 0).isLt
  unfold scal
  refine congrArg (a.view.read (Elt F) C) (Shape.idx_ext₂ ?_ ?_)
  · show n + 1 * (x 0).val = (n + (x 0).val) % 1024
    omega
  · show 0 + 1 * (x 1).val = (x 1).val
    omega

/-- The first group of the tile. -/
abbrev g₀ : ℕ := 64 * (i 1).val + 32 * (i 0).val

theorem g₀_le : g₀ i + 32 ≤ 1024 := by
  have h0 : (i 0).val < 2 := (i 0).isLt
  have h1 : (i 1).val < 16 := (i 1).isLt
  unfold g₀; omega

theorem cond1_iff : ∀ k : Fin k0_t1_loop.trips, k0_cond1 k = 1#1 ↔ 0 < k.val := by decide +kernel
theorem cond2_iff : ∀ k : Fin k0_t1_loop.trips, k0_cond2 k = 1#1 ↔ k.val + 1 < 32 := by decide +kernel
theorem cond3_iff : ∀ k : Fin k0_t1_loop.trips, k0_cond3 k = 1#1 ↔ k.val + 1 < 32 := by decide +kernel
theorem cond4_iff : ∀ k : Fin k0_t1_loop.trips, k0_cond4 k = 1#1 ↔ k.val + 1 < 32 := by decide +kernel
theorem cond5_iff : ∀ k : Fin k0_t1_loop.trips, k0_cond5 k = 1#1 ↔ k.val + 1 < 32 := by decide +kernel

variable (arg2 : Memref sig .scVector .hbm S65536x1024 .f32) (harg2 : arg2.IsWhole) (arg3 : Memref sig .scVector .hbm S1024x16 .f32) (harg3 : arg3.IsWhole) (arg4 : Memref sig .scVector .hbm S1024x1024 .f32) (harg4 : arg4.IsWhole) (arg5 : Memref sig .scVector .vmem S16x1024 .f32) (harg5 : arg5.IsWhole) (arg6 : Memref sig .scVector .vmem S16x1024 .f32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S1024 .f32) (harg9 : arg9.IsWhole) (arg10 : Memref sig .scVector .vmem S32x16 .f32) (harg10 : arg10.IsWhole) (arg11 arg12 arg13 arg14 arg15 v21 : DmaSems sig S_)

/-! ## The program of one group, and of a tile, with its blocks named -/

/-- The wait for the row copied out in the trip before, when there is one. -/
def clearProg {α : Type} (k : Fin k0_t1_loop.trips) (κ : Unit → Prog (TpuEff nD τ sig (Elt F) Λ₀ (th d i).2) α) :
    Prog (TpuEff nD τ sig (Elt F) Λ₀ (th d i).2) α := do
  if h : k0_cond1 k = 1#1 then do
    Prog.lift (.waitDma2 arg15.sem arg9 (rowOf arg4 (k0_off4 i) (k0_off4_inb i k h)) harg9.wordExact ((View.wordExact_bits rfl).reshape _ _))
    pure ⟨⟩
  else pure ⟨⟩
  κ ⟨⟩

/-- The group's first half. -/
theorem part5_eq (w1 w2 w3 : BitVec 32) (k : Fin k0_t1_loop.trips) :
    (k0_part5 (F := F) i arg2 harg2 arg3 harg3 arg4 harg4 arg5 harg5 arg6 harg6 arg7 harg7 arg8 harg8 arg9 harg9 arg10 harg10 arg11 arg12 arg13 arg14 arg15 v21 w1 w2 w3 k
      : Prog (TpuEff nD τ sig (Elt F) Λ₀ (th d i).2) _) =
    Prog.op (.load arg10 (Rect.unit (s := S32x16) (k0_off3 k) S1x16.size (k0_off3_inb k)).toLoadRect (View.loadsAt_vmem h_S1x16)) fun v24 : Vec F S1x16 .f32 =>
      clearProg d i arg4 arg9 harg9 arg15 k fun _ =>
        blockProg d i arg2 (arg2.slice (Rect.unit (s := S65536x1024) (k0_off5 i k 0#32) S16x1024.size (k0_off5_inb i k 0)) (fun _ => rfl)) arg5 harg5 arg11.sem
          (k0_t2_body (F := F) i arg2 harg2 arg3 harg3 arg4 harg4 arg5 harg5 arg6 harg6 arg7 harg7 arg8 harg8 arg9 harg9 arg10 harg10 arg11 arg12 arg13 arg14 arg15 v21 w1 w2 w3 k)
          (k0_cond2 k) (k0_off23 i k) (k0_off23_inb i k) fun _ =>
        blockProg d i arg2 (arg2.slice (Rect.unit (s := S65536x1024) (k0_off5 i k 16#32) S16x1024.size (k0_off5_inb i k 1)) (fun _ => rfl)) arg6 harg6 arg12.sem
          (k0_t3_body (F := F) i arg2 harg2 arg3 harg3 arg4 harg4 arg5 harg5 arg6 harg6 arg7 harg7 arg8 harg8 arg9 harg9 arg10 harg10 arg11 arg12 arg13 arg14 arg15 v21 w1 w2 w3 k)
          (k0_cond3 k) (k0_off41 i k) (k0_off41_inb i k) fun _ =>
        Prog.ret ⟨Scf.iv w2 w3 k, Scalar.addi w1 (Scalar.muli (Scf.iv w2 w3 k) 64#32), k0_pay45 v24⟩ := rfl

/-- The group's whole program. -/
theorem t1_body_eq (w1 : BitVec 32) (k : Fin k0_t1_loop.trips) (u : Unit) :
    (k0_t1_body (F := F) i arg2 harg2 arg3 harg3 arg4 harg4 arg5 harg5 arg6 harg6 arg7 harg7 arg8 harg8 arg9 harg9 arg10 harg10 arg11 arg12 arg13 arg14 arg15 v21 w1 k u
      : Prog (TpuEff nD τ sig (Elt F) Λ₀ (th d i).2) Unit) =
    (k0_part5 (F := F) i arg2 harg2 arg3 harg3 arg4 harg4 arg5 harg5 arg6 harg6 arg7 harg7 arg8 harg8 arg9 harg9 arg10 harg10 arg11 arg12 arg13 arg14 arg15 v21 w1 0#32 1#32 k) >>= fun p =>
        blockProg d i arg2 (arg2.slice (Rect.unit (s := S65536x1024) (k0_off5 i k 32#32) S16x1024.size (k0_off5_inb i k 2)) (fun _ => rfl)) arg7 harg7 arg13.sem
          (k0_t4_body (F := F) i arg2 harg2 arg3 harg3 arg4 harg4 arg5 harg5 arg6 harg6 arg7 harg7 arg8 harg8 arg9 harg9 arg10 harg10 arg11 arg12 arg13 arg14 arg15 v21)
          (k0_cond4 k) (k0_off59 i k) (k0_off59_inb i k) fun _ =>
        blockProg d i arg2 (arg2.slice (Rect.unit (s := S65536x1024) (k0_off5 i k 48#32) S16x1024.size (k0_off5_inb i k 3)) (fun _ => rfl)) arg8 harg8 arg14.sem
          (k0_t5_body (F := F) i arg2 harg2 arg3 harg3 arg4 harg4 arg5 harg5 arg6 harg6 arg7 harg7 arg8 harg8 arg9 harg9 arg10 harg10 arg11 arg12 arg13 arg14 arg15 v21 p.2.2)
          (k0_cond5 k) (k0_off77 i k) (k0_off77_inb i k) fun _ =>
        Prog.op (.enqueueDma arg9 (.here (rowOf arg4 (k0_off78 i k) (k0_off78_inb i k))) (.dma arg15.sem) harg9.wordExact ((View.wordExact_bits rfl).reshape _ _) ⟨Or.inl rfl, trivial⟩) fun _ =>
        Prog.ret ⟨⟩ := rfl

/-! ## One group -/

variable (X : Buf (Elt F) (arg2.view.loc (th d i))) (C : Buf (Elt F) (arg3.view.loc (th d i))) (f₀ out : Buf (Elt F) (arg4.view.loc (th d i)))
  (O : CellTallies nD τ sig (HIx 1)) (W : Waits sig (HIx 1))

/-- A block's buffer before the trip of group `k`: its copy is under way while there is such a group. -/
def Slot (q : PosShare TreeShare) (buf : Memref sig .scVector .vmem S16x1024 .f32) (sm : DmaSem sig) (b k : ℕ) : sProp 𝕄 :=
  if k < 32 then Busy d i arg2 q X buf sm (fun x => feat d i arg2 X (64 * (g₀ i + k) + b + (x 0).val) (x 1)) else Idle d i arg2 q X buf sm

/-- The number of the result's rows' elements a wait asks for. -/
def outCredit : ℕ := (rowOf arg4 ![0, 0] (by decide)).view.dmaCredit

/-- The running values before the trip of group `k`: being copied out, from the second trip on. -/
def OutSt (k : ℕ) : sProp 𝕄 :=
  if k = 0 then iprop((∃ f, arg9.view.loc (th d i) ↦{fullShare} f) ∗ semVal (th d i, SemLoc.dma arg15.sem) 0)
  else OutBusy d i arg4 out arg9 arg15.sem (outCredit arg4) (g₀ i + k - 1)

/-- Before a group's program writes the running values it has waited for the row before. -/
theorem wp_clear {α : Type} (k : Fin k0_t1_loop.trips) (κ : Unit → Prog (TpuEff nD τ sig (Elt F) Λ₀ (th d i).2) α) (Q : α → sProp 𝕄) :
    iprop(OutSt d i arg4 arg9 arg15 out k.val ∗ (arg4.view.loc (th d i) ↦[rows d i arg4 (g₀ i) (g₀ i + k.val - 1)]{fullShare} out)
        ∗ Owing d i O W ∗ Transfers.MayWaits (th d i) none O)
      ⊢ iprop((iprop((∃ f, arg9.view.loc (th d i) ↦{fullShare} f) ∗ semVal (th d i, SemLoc.dma arg15.sem) 0
              ∗ (arg4.view.loc (th d i) ↦[rows d i arg4 (g₀ i) (g₀ i + k.val)]{fullShare} out) ∗ Owing d i O W)
            -∗ wp frame (wpE (defs₀ (F := F)) 𝒱₀ (th d i) none) Set.univ (κ ⟨⟩) Q)
          -∗ wp frame (wpE (defs₀ (F := F)) 𝒱₀ (th d i) none) Set.univ (clearProg d i arg4 arg9 harg9 arg15 k κ) Q) := by
  have hc := cond1_iff k
  unfold OutSt clearProg
  by_cases h : k0_cond1 k = 1#1
  · have hk : ¬ k.val = 0 := by have := hc.1 h; omega
    rw [if_neg hk, dif_pos h]
    iintro ⟨Hf, Ho, HO, Hmw⟩ HK
    iapply (wp_awaitOut d i arg4 out arg9 arg15.sem (g₀ i + k.val - 1) O W (rowOf arg4 (k0_off4 i) (k0_off4_inb i k h)) (show _ = outCredit arg4 from rfl)) $$ [Hf HO Hmw]
    · isplitl [Hf]; · iexact Hf
      isplitl [HO] <;> iassumption
    iintro ⟨Hr, Ha, Hs, HO⟩
    iapply HK
    isplitl [Ha]; · iexact Ha
    isplitl [Hs]; · iexact Hs
    isplitl [Ho Hr]
    · have e : g₀ i + k.val - 1 + 1 = g₀ i + k.val := by omega
      rw [e, ← rows_union d i arg4 (show g₀ i ≤ g₀ i + k.val - 1 by omega) (show g₀ i + k.val - 1 ≤ g₀ i + k.val by omega)]
      iapply (pointsTo_union (rows_disjoint d i arg4 le_rfl)).2
      isplitl [Ho] <;> iassumption
    · iexact HO
  · have hk : k.val = 0 := by
      by_contra hk
      exact h (hc.2 (by omega))
    rw [if_pos hk, dif_neg h]
    iintro ⟨⟨Ha, Hs⟩, Ho, HO, -⟩ HK
    iapply HK
    isplitl [Ha]; · iexact Ha
    isplitl [Hs]; · iexact Hs
    isplitl [Ho]
    · rw [rows_empty d i arg4 (show g₀ i + k.val ≤ g₀ i by omega), ← rows_empty d i arg4 (show g₀ i + k.val - 1 ≤ g₀ i by omega)]
      iexact Ho
    · iexact HO

/-- A group's row of the factors, as the loaded vector. -/
def facVec (v : Fin 32 → Fin 16 → F .f32) (k : Fin 32) : Vec F S1x16 .f32 := fun x => v k (x 1)

/-- A load of one group's row of the factors. -/
theorem wp_factors {α : Type} (k : Fin k0_t1_loop.trips) (v : Fin 32 → Fin 16 → F .f32)
    (κ : Vec F S1x16 .f32 → Prog (TpuEff nD τ sig (Elt F) Λ₀ (th d i).2) α) (Q : α → sProp 𝕄) :
    Landed d i arg10 (fun x => v (x 0) (x 1))
      ⊢ iprop((Landed d i arg10 (fun x => v (x 0) (x 1)) -∗ wp frame (wpE (defs₀ (F := F)) 𝒱₀ (th d i) none) Set.univ (κ (facVec v k)) Q)
          -∗ wp frame (wpE (defs₀ (F := F)) 𝒱₀ (th d i) none) Set.univ
              (.op (.load arg10 (Rect.unit (s := S32x16) (k0_off3 k) S1x16.size (k0_off3_inb k)).toLoadRect (View.loadsAt_vmem h_S1x16)) κ) Q) := by
  unfold Landed
  iintro ⟨%f, Hb, %hf⟩ HK
  have hv : arg10.view.readAt (Elt F) (Rect.unit (s := S32x16) (k0_off3 k) S1x16.size (k0_off3_inb k)).toLoadRect f = facVec v k := by
    funext x
    rw [View.readAt_apply, hf]
    have hx0 : (x 0).val = 0 := by have : (x 0).val < 1 := (x 0).isLt; omega
    have e : ∀ a, k0_off3 k a = ![k.val, 0] a := fun a => congrFun (k0_off3_eq k) a
    refine congrArg₂ v (Fin.ext ?_) (Fin.ext ?_)
    · show k0_off3 k 0 + 1 * (x 0).val = k.val
      rw [e 0]
      show k.val + 1 * (x 0).val = k.val
      omega
    · show k0_off3 k 1 + 1 * (x 1).val = (x 1).val
      rw [e 1]
      show 0 + 1 * (x 1).val = (x 1).val
      omega
  rw [← hv]
  iapply (wp_load 𝒱₀ (th d i) none Set.univ (m := arg10) (Finset.subset_univ _)) $$ Hb
  iintro Hb
  iapply HK
  iexists f
  isplitl [Hb]
  · iexact Hb
  · ipureintro; exact hf

theorem off_eq {m n : ℕ} (h : m = n) : (![m, 0] : Fin 2 → ℕ) = ![n, 0] := congrArg (fun x => ![x, 0]) h

/-- A block of group `k` finds its slot's copy under way and leaves the next group's under way. -/
theorem wp_slot {α : Type} (q : PosShare TreeShare) (k : Fin k0_t1_loop.trips) (b : ℕ) (srcw : Memref sig .scVector .hbm S16x1024 .f32)
    (buf : Memref sig .scVector .vmem S16x1024 .f32) (hbuf : buf.IsWhole) (sm : DmaSem sig)
    (body : Fin k0_t2_loop.trips → Unit → Prog (TpuEff nD τ sig (Elt F) Λ₀ (th d i).2) Unit) (new old : Fin 1024 → F .f32)
    (hbody : ∀ k' u, inv d i buf arg9 (fun r h => feat d i arg2 X (64 * (g₀ i + k.val) + b + r.val) h) new old k'.val
      ⊢ wp frame (wpE (defs₀ (F := F)) 𝒱₀ (th d i) none) Set.univ (body k' u)
          (fun _ => inv d i buf arg9 (fun r h => feat d i arg2 X (64 * (g₀ i + k.val) + b + r.val) h) new old (k'.val + 1)))
    (c : BitVec 1) (hc : c = 1#1 ↔ k.val + 1 < 32) (off : Fin 2 → ℕ) (inb : c = 1#1 → ∀ x, off x + S16x1024.size x ≤ S65536x1024.size x)
    (hoff : off = ![64 * (g₀ i + (k.val + 1)) + b, 0])
    (κ : Unit → Prog (TpuEff nD τ sig (Elt F) Λ₀ (th d i).2) α) (Q : α → sProp 𝕄) :
    iprop(Slot d i arg2 X q buf sm b k.val ∗ Landed d i arg9 (fun x => old (x 0)) ∗ Owing d i O W ∗ Transfers.MayWaits (th d i) none O)
      ⊢ iprop((iprop(Slot d i arg2 X q buf sm b (k.val + 1) ∗ Landed d i arg9 (fun x => new (x 0)) ∗ Owing d i O W)
            -∗ wp frame (wpE (defs₀ (F := F)) 𝒱₀ (th d i) none) Set.univ (κ ⟨⟩) Q)
          -∗ wp frame (wpE (defs₀ (F := F)) 𝒱₀ (th d i) none) Set.univ (blockProg d i arg2 srcw buf hbuf sm body c off inb κ) Q) := by
  have hk : k.val < 32 := k.isLt
  have h := wp_block d i arg2 q X srcw buf hbuf sm arg9 body (fun r h => feat d i arg2 X (64 * (g₀ i + k.val) + b + r.val) h)
    (fun r h => feat d i arg2 X (64 * (g₀ i + (k.val + 1)) + b + r.val) h) new old hbody c off inb (fun h => feat_rect d i arg2 X _ hoff (inb h)) O W κ Q
  unfold Slot
  rw [if_pos hk]
  simp only [hc] at h
  exact h

/-- What is held between two groups. -/
def outer (q : Fin 4 → PosShare TreeShare) (k : ℕ) : sProp 𝕄 :=
  iprop(OutSt d i arg4 arg9 arg15 out k ∗ (arg4.view.loc (th d i) ↦[rows d i arg4 (g₀ i) (g₀ i + k - 1)]{fullShare} out)
    ∗ (arg4.view.loc (th d i) ↦[rows d i arg4 (g₀ i + k) (g₀ i + 32)]{fullShare} f₀)
    ∗ Slot d i arg2 X (q 0) arg5 arg11.sem 0 k ∗ Slot d i arg2 X (q 1) arg6 arg12.sem 16 k
    ∗ Slot d i arg2 X (q 2) arg7 arg13.sem 32 k ∗ Slot d i arg2 X (q 3) arg8 arg14.sem 48 k
    ∗ Landed d i arg10 (fun x => scal d i arg3 C (g₀ i + (x 0).val) (x 1)) ∗ Owing d i O W ∗ Transfers.MayWaits (th d i) none O)

/-- A group's program, on the result's values `out`. -/
theorem wp_group (q : Fin 4 → PosShare TreeShare)
    (hout : arg4.view.read (Elt F) out = fun x => outRow (feat d i arg2 X) (scal d i arg3 C) (x 0).val (x 1))
    (w : BitVec 32) (k : Fin k0_t1_loop.trips) (u : Unit) :
    outer d i arg2 arg3 arg4 arg5 arg6 arg7 arg8 arg9 arg10 arg11 arg12 arg13 arg14 arg15 X C f₀ out O W q k.val
      ⊢ wp frame (wpE (defs₀ (F := F)) 𝒱₀ (th d i) none) Set.univ
          (k0_t1_body (F := F) i arg2 harg2 arg3 harg3 arg4 harg4 arg5 harg5 arg6 harg6 arg7 harg7 arg8 harg8 arg9 harg9 arg10 harg10 arg11 arg12 arg13 arg14 arg15 v21 w k u)
          (fun _ => outer d i arg2 arg3 arg4 arg5 arg6 arg7 arg8 arg9 arg10 arg11 arg12 arg13 arg14 arg15 X C f₀ out O W q (k.val + 1)) := by
  have hk : k.val < 32 := k.isLt
  have hg := g₀_le i
  let R : Fin 1024 := ⟨g₀ i + k.val, by omega⟩
  have hs : ∀ j : Fin 16, k0_pay45 (F := F) (facVec (fun a j => scal d i arg3 C (g₀ i + a.val) j) k) (ix1 j) = scal d i arg3 C (g₀ i + k.val) j := by
    intro j
    unfold k0_pay45
    exact shapeCast_dropUnit_apply ![16] (facVec (fun a j => scal d i arg3 C (g₀ i + a.val) j) k) shapeCasts_S1x16_S16 (ix1 j)
  -- the running values after each block
  let v0 : Fin 1024 → F .f32 := fun h => tree fun r : Fin 16 => feat d i arg2 X (64 * (g₀ i + k.val) + 0 + r.val) h
  let v1 := newOf 1 (fun r h => feat d i arg2 X (64 * (g₀ i + k.val) + 16 + r.val) h) (scal d i arg3 C (g₀ i + k.val)) v0
  let v2 := newOf 2 (fun r h => feat d i arg2 X (64 * (g₀ i + k.val) + 32 + r.val) h) (scal d i arg3 C (g₀ i + k.val)) v1
  let v3 := newOf 3 (fun r h => feat d i arg2 X (64 * (g₀ i + k.val) + 48 + r.val) h) (scal d i arg3 C (g₀ i + k.val)) v2
  have hrow : (fun x : S1024.Idx => outRow (feat d i arg2 X) (scal d i arg3 C) R.val (x 0)) = fun x => v3 (x 0) := rfl
  rw [t1_body_eq, wp_bind, part5_eq]
  unfold outer
  iintro ⟨Hst, Ho, Hf, H0, H1, H2, H3, Hc, HO, #Hmw⟩
  iapply (wp_factors d i arg10 k (fun a j => scal d i arg3 C (g₀ i + a.val) j)) $$ Hc
  iintro Hc
  iapply (wp_clear d i arg4 arg9 harg9 arg15 out O W k) $$ [Hst Ho HO]
  · isplitl [Hst]; · iexact Hst
    isplitl [Ho]; · iexact Ho
    isplitl [HO]; · iexact HO
    iexact Hmw
  iintro ⟨⟨%fa, Ha⟩, Hs, Ho, HO⟩
  iapply (wp_slot d i arg2 arg9 X O W (q 0) k 0 _ arg5 harg5 arg11.sem _ v0 (fun h => arg9.view.read (Elt F) fa (ix1 h))
    (fun k' u => t2_trip d i arg2 harg2 arg3 harg3 arg4 harg4 arg5 harg5 arg6 harg6 arg7 harg7 arg8 harg8 arg9 harg9 arg10 harg10 arg11 arg12 arg13 arg14 arg15 v21 w 0#32 1#32 k _ (scal d i arg3 C (g₀ i + k.val)) _ k' u)
    (k0_cond2 k) (cond2_iff k) (k0_off23 i k) (k0_off23_inb i k) ((k0_off23_eq i k).trans (off_eq (by unfold g₀; omega)))) $$ [H0 Ha HO]
  · isplitl [H0]; · iexact H0
    isplitl [Ha]
    · unfold Landed
      iexists fa
      isplitl [Ha]
      · iexact Ha
      · ipureintro
        funext x
        exact congrArg (arg9.view.read (Elt F) fa) (ValueIdx.eq_ix1 x)
    isplitl [HO]; · iexact HO
    iexact Hmw
  iintro ⟨H0, Ha, HO⟩
  iapply (wp_slot d i arg2 arg9 X O W (q 1) k 16 _ arg6 harg6 arg12.sem _ v1 v0
    (fun k' u => t3_trip d i arg2 harg2 arg3 harg3 arg4 harg4 arg5 harg5 arg6 harg6 arg7 harg7 arg8 harg8 arg9 harg9 arg10 harg10 arg11 arg12 arg13 arg14 arg15 v21 w 0#32 1#32 k _ (scal d i arg3 C (g₀ i + k.val)) _ k' u)
    (k0_cond3 k) (cond3_iff k) (k0_off41 i k) (k0_off41_inb i k) ((k0_off41_eq i k).trans (off_eq (by unfold g₀; omega)))) $$ [H1 Ha HO]
  · isplitl [H1]; · iexact H1
    isplitl [Ha]; · iexact Ha
    isplitl [HO]; · iexact HO
    iexact Hmw
  iintro ⟨H1, Ha, HO⟩
  rw [wp_ret]
  imodintro
  iapply (wp_slot d i arg2 arg9 X O W (q 2) k 32 _ arg7 harg7 arg13.sem _ v2 v1
    (fun k' u => t4_trip d i arg2 harg2 arg3 harg3 arg4 harg4 arg5 harg5 arg6 harg6 arg7 harg7 arg8 harg8 arg9 harg9 arg10 harg10 arg11 arg12 arg13 arg14 arg15 v21 _ (scal d i arg3 C (g₀ i + k.val)) _ k' u)
    (k0_cond4 k) (cond4_iff k) (k0_off59 i k) (k0_off59_inb i k) ((k0_off59_eq i k).trans (off_eq (by unfold g₀; omega)))) $$ [H2 Ha HO]
  · isplitl [H2]; · iexact H2
    isplitl [Ha]; · iexact Ha
    isplitl [HO]; · iexact HO
    iexact Hmw
  iintro ⟨H2, Ha, HO⟩
  iapply (wp_slot d i arg2 arg9 X O W (q 3) k 48 _ arg8 harg8 arg14.sem _ v3 v2
    (fun k' u => by
      have h := t5_trip d i arg2 harg2 arg3 harg3 arg4 harg4 arg5 harg5 arg6 harg6 arg7 harg7 arg8 harg8 arg9 harg9 arg10 harg10 arg11 arg12 arg13 arg14 arg15 v21 (fun r h => feat d i arg2 X (64 * (g₀ i + k.val) + 48 + r.val) h)
        (k0_pay45 (facVec (fun a j => scal d i arg3 C (g₀ i + a.val) j) k)) v2 k' u
      rw [funext hs] at h
      exact h)
    (k0_cond5 k) (cond5_iff k) (k0_off77 i k) (k0_off77_inb i k) ((k0_off77_eq i k).trans (off_eq (by unfold g₀; omega)))) $$ [H3 Ha HO]
  · isplitl [H3]; · iexact H3
    isplitl [Ha]; · iexact Ha
    isplitl [HO]; · iexact HO
    iexact Hmw
  iintro ⟨H3, Ha, HO⟩
  have hsplit := rows_union d i arg4 (show g₀ i + k.val ≤ g₀ i + k.val + 1 by omega) (show g₀ i + k.val + 1 ≤ g₀ i + 32 by omega)
  rw [← hsplit]
  ihave Hf' := (pointsTo_union (rows_disjoint d i arg4 le_rfl)).1 $$ Hf
  icases Hf' with ⟨Hrow, Hf⟩
  iapply (wp_startOut d i arg4 f₀ out arg9 harg9 arg15.sem R ((k0_off78_eq i k).trans (off_eq rfl)) (k0_off78_inb i k)
    (fun n h => outRow (feat d i arg2 X) (scal d i arg3 C) n.val h) hout) $$ [Ha Hrow Hs]
  · isplitl [Ha]; · rw [hrow]; iexact Ha
    isplitl [Hrow]; · iexact Hrow
    iexact Hs
  iintro Hst
  rw [wp_ret]
  imodintro
  unfold OutSt
  rw [if_neg (Nat.succ_ne_zero k.val)]
  isplitl [Hst]; · iexact Hst
  isplitl [Ho]; · iexact Ho
  isplitl [Hf]; · iexact Hf
  isplitl [H0]; · iexact H0
  isplitl [H1]; · iexact H1
  isplitl [H2]; · iexact H2
  isplitl [H3]; · iexact H3
  isplitl [Hc]; · iexact Hc
  isplitl [HO]; · iexact HO
  iexact Hmw

/-! ## A tile's whole program -/

/-- The words of the program that hold the tile's first feature row. -/
abbrev w₀ : BitVec 32 :=
  Scalar.muli (Scalar.muli (Scalar.addi (Scalar.muli (BitVec.ofNat 32 (i 1).val) 2#32) (BitVec.ofNat 32 (i 0).val)) 32#32) 64#32

/-- Everything before the last wait. -/
theorem part6_eq :
    (k0_part6 (F := F) i arg2 harg2 arg3 harg3 arg4 harg4 arg5 harg5 arg6 harg6 arg7 harg7 arg8 harg8 arg9 harg9 arg10 harg10 arg11 arg12 arg13 arg14 arg15 v21 : Prog (TpuEff nD τ sig (Elt F) Λ₀ (th d i).2) PUnit) =
    Prog.op (.enqueueDma (arg3.slice (Rect.unit (s := S1024x16) (k0_off1 i) S32x16.size (k0_off1_inb i)) (fun _ => rfl)) (.here arg10) (.dma v21.sem) (View.wordExact_bits rfl) harg10.wordExact ⟨Or.inl rfl, trivial⟩) fun _ =>
    Prog.op (.waitDma2 v21.sem (arg3.slice (Rect.unit (s := S1024x16) (k0_off1 i) S32x16.size (k0_off1_inb i)) (fun _ => rfl)) arg10 (View.wordExact_bits rfl) harg10.wordExact) fun _ =>
    Prog.op (.enqueueDma (arg2.slice (Rect.unit (s := S65536x1024) (k0_off2 i 0#32) S16x1024.size (k0_off2_inb i 0)) (fun _ => rfl)) (.here arg5) (.dma arg11.sem) (View.wordExact_bits rfl) harg5.wordExact ⟨Or.inl rfl, trivial⟩) fun _ =>
    Prog.op (.enqueueDma (arg2.slice (Rect.unit (s := S65536x1024) (k0_off2 i 16#32) S16x1024.size (k0_off2_inb i 1)) (fun _ => rfl)) (.here arg6) (.dma arg12.sem) (View.wordExact_bits rfl) harg6.wordExact ⟨Or.inl rfl, trivial⟩) fun _ =>
    Prog.op (.enqueueDma (arg2.slice (Rect.unit (s := S65536x1024) (k0_off2 i 32#32) S16x1024.size (k0_off2_inb i 2)) (fun _ => rfl)) (.here arg7) (.dma arg13.sem) (View.wordExact_bits rfl) harg7.wordExact ⟨Or.inl rfl, trivial⟩) fun _ =>
    Prog.op (.enqueueDma (arg2.slice (Rect.unit (s := S65536x1024) (k0_off2 i 48#32) S16x1024.size (k0_off2_inb i 3)) (fun _ => rfl)) (.here arg8) (.dma arg14.sem) (View.wordExact_bits rfl) harg8.wordExact ⟨Or.inl rfl, trivial⟩) fun _ =>
    (Scf.Loop.for k0_t1_loop k0_t1_ok ⟨⟩ (k0_t1_body (F := F) i arg2 harg2 arg3 harg3 arg4 harg4 arg5 harg5 arg6 harg6 arg7 harg7 arg8 harg8 arg9 harg9 arg10 harg10 arg11 arg12 arg13 arg14 arg15 v21 (w₀ i))) >>= fun _ =>
    Prog.ret ⟨⟩ := rfl

/-- The tile's whole program. -/
theorem cc0_k_eq :
    (cc0_k (F := F) i arg2 harg2 arg3 harg3 arg4 harg4 arg5 harg5 arg6 harg6 arg7 harg7 arg8 harg8 arg9 harg9 arg10 harg10 arg11 arg12 arg13 arg14 arg15 v21 : Prog (TpuEff nD τ sig (Elt F) Λ₀ (th d i).2) PUnit) =
    (k0_part6 (F := F) i arg2 harg2 arg3 harg3 arg4 harg4 arg5 harg5 arg6 harg6 arg7 harg7 arg8 harg8 arg9 harg9 arg10 harg10 arg11 arg12 arg13 arg14 arg15 v21) >>= fun _ =>
    Prog.op (.waitDma2 arg15.sem arg9 (rowOf arg4 (k0_off79 i) (k0_off79_inb i)) harg9.wordExact ((View.wordExact_bits rfl).reshape _ _)) fun _ =>
    Prog.ret ⟨⟩ := rfl

/-- What a tile is handed in its own memory, and hands back: its buffers with some contents, its transfer cells at zero. -/
def Own : sProp 𝕄 :=
  iprop((∃ f, arg5.view.loc (th d i) ↦{fullShare} f) ∗ (∃ f, arg6.view.loc (th d i) ↦{fullShare} f)
    ∗ (∃ f, arg7.view.loc (th d i) ↦{fullShare} f) ∗ (∃ f, arg8.view.loc (th d i) ↦{fullShare} f)
    ∗ (∃ f, arg9.view.loc (th d i) ↦{fullShare} f) ∗ (∃ f, arg10.view.loc (th d i) ↦{fullShare} f)
    ∗ semVal (th d i, SemLoc.dma arg11.sem) 0 ∗ semVal (th d i, SemLoc.dma arg12.sem) 0 ∗ semVal (th d i, SemLoc.dma arg13.sem) 0
    ∗ semVal (th d i, SemLoc.dma arg14.sem) 0 ∗ semVal (th d i, SemLoc.dma arg15.sem) 0 ∗ semVal (th d i, SemLoc.dma v21.sem) 0)

theorem first (r : Fin 4) : 4096 * (i 1).val + 2048 * (i 0).val + 16 * r.val = 64 * (g₀ i + 0) + 16 * r.val := by
  unfold g₀; omega

/-- A tile's program, from read shares of the features and of the factors and its thirty-two rows of the result, to those rows at the result's values. -/
theorem wp_tile (q : Fin 4 → PosShare TreeShare) (qc : PosShare TreeShare)
    (hout : arg4.view.read (Elt F) out = fun x => outRow (feat d i arg2 X) (scal d i arg3 C) (x 0).val (x 1)) :
    iprop((arg2.view.loc (th d i) ↦{q 0} X) ∗ (arg2.view.loc (th d i) ↦{q 1} X) ∗ (arg2.view.loc (th d i) ↦{q 2} X) ∗ (arg2.view.loc (th d i) ↦{q 3} X)
        ∗ (arg3.view.loc (th d i) ↦{qc} C) ∗ (arg4.view.loc (th d i) ↦[rows d i arg4 (g₀ i) (g₀ i + 32)]{fullShare} f₀)
        ∗ Own d i arg5 arg6 arg7 arg8 arg9 arg10 arg11 arg12 arg13 arg14 arg15 v21 ∗ Owing d i O W ∗ Transfers.MayWaits (th d i) none O)
      ⊢ wp frame (wpE (defs₀ (F := F)) 𝒱₀ (th d i) none) Set.univ
          (cc0_k (F := F) i arg2 harg2 arg3 harg3 arg4 harg4 arg5 harg5 arg6 harg6 arg7 harg7 arg8 harg8 arg9 harg9 arg10 harg10 arg11 arg12 arg13 arg14 arg15 v21)
          (fun _ => iprop((arg4.view.loc (th d i) ↦[rows d i arg4 (g₀ i) (g₀ i + 32)]{fullShare} out)
            ∗ Own d i arg5 arg6 arg7 arg8 arg9 arg10 arg11 arg12 arg13 arg14 arg15 v21 ∗ Owing d i O W)) := by
  rw [cc0_k_eq, wp_bind, part6_eq]
  unfold Own
  iintro ⟨X0, X1, X2, X3, Cs, Ho, ⟨B5, B6, B7, B8, B9, B10, S11, S12, S13, S14, S15, S21⟩, HO, #Hmw⟩
  iapply (wp_start d i arg3 qc C (Rect.unit (s := S1024x16) (k0_off1 i) S32x16.size (k0_off1_inb i)) (fun _ => rfl) arg10 v21.sem (show 0 < S32x16.numel by decide)
    _ (scal_rect d i arg3 C (g₀ i) (k0_off1_eq i) (k0_off1_inb i))) $$ [B10 S21 Cs]
  · unfold Idle
    isplitl [B10]; · iexact B10
    isplitl [S21] <;> iassumption
  iintro Hc
  iapply (wp_await d i arg3 qc C arg10 v21.sem (fun x => scal d i arg3 C (g₀ i + (x 0).val) (x 1)) O W) $$ [Hc HO]
  · isplitl [Hc]; · iexact Hc
    isplitl [HO]; · iexact HO
    iexact Hmw
  iintro ⟨Hc, S21, -, HO⟩
  iapply (wp_start d i arg2 (q 0) X (Rect.unit (s := S65536x1024) (k0_off2 i 0#32) S16x1024.size (k0_off2_inb i 0)) (fun _ => rfl) arg5 arg11.sem (show 0 < S16x1024.numel by decide)
    _ (feat_rect d i arg2 X (64 * (g₀ i + 0) + 0) ((k0_off2_eq i 0).trans (off_eq (first i 0))) (k0_off2_inb i 0))) $$ [B5 S11 X0]
  · unfold Idle
    isplitl [B5]; · iexact B5
    isplitl [S11] <;> iassumption
  iintro H0
  iapply (wp_start d i arg2 (q 1) X (Rect.unit (s := S65536x1024) (k0_off2 i 16#32) S16x1024.size (k0_off2_inb i 1)) (fun _ => rfl) arg6 arg12.sem (show 0 < S16x1024.numel by decide)
    _ (feat_rect d i arg2 X (64 * (g₀ i + 0) + 16) ((k0_off2_eq i 1).trans (off_eq (first i 1))) (k0_off2_inb i 1))) $$ [B6 S12 X1]
  · unfold Idle
    isplitl [B6]; · iexact B6
    isplitl [S12] <;> iassumption
  iintro H1
  iapply (wp_start d i arg2 (q 2) X (Rect.unit (s := S65536x1024) (k0_off2 i 32#32) S16x1024.size (k0_off2_inb i 2)) (fun _ => rfl) arg7 arg13.sem (show 0 < S16x1024.numel by decide)
    _ (feat_rect d i arg2 X (64 * (g₀ i + 0) + 32) ((k0_off2_eq i 2).trans (off_eq (first i 2))) (k0_off2_inb i 2))) $$ [B7 S13 X2]
  · unfold Idle
    isplitl [B7]; · iexact B7
    isplitl [S13] <;> iassumption
  iintro H2
  iapply (wp_start d i arg2 (q 3) X (Rect.unit (s := S65536x1024) (k0_off2 i 48#32) S16x1024.size (k0_off2_inb i 3)) (fun _ => rfl) arg8 arg14.sem (show 0 < S16x1024.numel by decide)
    _ (feat_rect d i arg2 X (64 * (g₀ i + 0) + 48) ((k0_off2_eq i 3).trans (off_eq (first i 3))) (k0_off2_inb i 3))) $$ [B8 S14 X3]
  · unfold Idle
    isplitl [B8]; · iexact B8
    isplitl [S14] <;> iassumption
  iintro H3
  iapply (Scf.wp_for_bind frame (wpE (defs₀ (F := F)) 𝒱₀ (th d i) none) Set.univ _ _ _ k0_t1_ok _ _
    (fun k _ => outer d i arg2 arg3 arg4 arg5 arg6 arg7 arg8 arg9 arg10 arg11 arg12 arg13 arg14 arg15 X C f₀ out O W q k)
    (fun k u => wp_group d i arg2 harg2 arg3 harg3 arg4 harg4 arg5 harg5 arg6 harg6 arg7 harg7 arg8 harg8 arg9 harg9 arg10 harg10 arg11 arg12 arg13 arg14 arg15 v21 X C f₀ out O W q hout (w₀ i) k u)) $$ [B9 S15 Ho H0 H1 H2 H3 Hc HO]
  · unfold outer OutSt Slot
    rw [if_pos rfl, rows_empty d i arg4 (show g₀ i + 0 - 1 ≤ g₀ i by omega), pointsTo_empty]
    simp only [show (0 : ℕ) < 32 by decide, if_true]
    isplitl [B9 S15]
    · isplitl [B9] <;> iassumption
    isplitr [Ho H0 H1 H2 H3 Hc HO]; · iempintro
    isplitl [Ho]; · iexact Ho
    isplitl [H0]; · iexact H0
    isplitl [H1]; · iexact H1
    isplitl [H2]; · iexact H2
    isplitl [H3]; · iexact H3
    isplitl [Hc]; · iexact Hc
    isplitl [HO]; · iexact HO
    iexact Hmw
  iintro %u Hi
  have htr : Scf.trips k0_t1_loop.lb k0_t1_loop.ub k0_t1_loop.st = 32 := by decide
  rw [htr, wp_ret]
  imodintro
  unfold outer OutSt Slot
  rw [if_neg (by decide : ¬ 32 = 0)]
  simp only [lt_irrefl, if_false]
  unfold Idle Landed
  icases Hi with ⟨Hst, Ho, -, ⟨B5, S11, -⟩, ⟨B6, S12, -⟩, ⟨B7, S13, -⟩, ⟨B8, S14, -⟩, ⟨%fc, B10, -⟩, HO, -⟩
  iapply (wp_awaitOut d i arg4 out arg9 arg15.sem (g₀ i + 32 - 1) O W (rowOf arg4 (k0_off79 i) (k0_off79_inb i)) (show _ = outCredit arg4 from rfl)) $$ [Hst HO]
  · isplitl [Hst]; · iexact Hst
    isplitl [HO]; · iexact HO
    iexact Hmw
  iintro ⟨Hr, B9, S15, HO⟩
  rw [wp_ret]
  imodintro
  isplitl [Ho Hr]
  · have e : g₀ i + 32 - 1 + 1 = g₀ i + 32 := by omega
    rw [e, ← rows_union d i arg4 (show g₀ i ≤ g₀ i + 32 - 1 by omega) (show g₀ i + 32 - 1 ≤ g₀ i + 32 by omega)]
    iapply (pointsTo_union (rows_disjoint d i arg4 le_rfl)).2
    isplitl [Ho] <;> iassumption
  isplitr [HO]
  · isplitl [B5]; · iexact B5
    isplitl [B6]; · iexact B6
    isplitl [B7]; · iexact B7
    isplitl [B8]; · iexact B8
    isplitl [B9]; · iexact B9
    isplitl [B10]; · iexists fc; iexact B10
    isplitl [S11]; · iexact S11
    isplitl [S12]; · iexact S12
    isplitl [S13]; · iexact S13
    isplitl [S14]; · iexact S14
    isplitl [S15] <;> iassumption
  · iexact HO

end Cert.Proof.KernelIdeal
-- ==== Proof.Launch.lean ====
/-
  The program as the launch theorem takes it: the host operations before and after the call, what the handshakes carry to each
  tile (read shares of the features and of the factors, the tile's thirty-two rows of the result) and back (those rows at the
  result's values), a tile's own buffers and cells, and the obligation of a tile.
-/
module

public import proofs.«01_k».proof.Proof.Tile
public import Idealize.ShloMosaic.Lib.SparseCore.Quiescent
public import Idealize.ShloMosaic.Lib.StableHlo.Run
public import Idealize.ShloMosaic.Lib.Pipeline.Kit
public import Idealize.ShloMosaic.Lib.Pipeline.Frame

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr after wp_seq seq)
open Idealize.ShloMosaic.ValueIdx (ix1 ix2)

variable {F : FTy → Type} [FloatOps F]

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
omit [FloatOps F] in
theorem nSub_zero : (K (F := F)).nSub 0 = 16 := rfl
omit [FloatOps F] in
theorem nCore_zero : (K (F := F)).nCore 0 = 2 := rfl
abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

omit [FloatOps F] in
/-- The launch's semaphores are four different ones, none scoped, and no buffer is shared by a SparseCore's tasks. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The host operations around the call, and what the arrays hold -/

abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)

/-- The operations before the call: the factors from the group sizes, and the features as rows. -/
abbrev opsBefore : List (HloOp τ sig (Elt F)) :=
  [StableHlo.reshape main_arg1 main_v0 rfl shapeCasts_S16x64_S1024,
    StableHlo.unary main_v0 main_v1 (sitofp .f32),
    StableHlo.nullary main_cst (constant S_ .f32 0x3F800000#32),
    StableHlo.unary main_cst main_v2 (broadcastInDim S1024 ![] bcast_S_S1024),
    StableHlo.binary main_v2 main_v1 main_v3 Host.divf,
    StableHlo.unary main_v3 main_v4 (broadcastInDim S1024x1 ![0] bcast_S1024_S1024x1_0),
    StableHlo.unary main_v4 main_v5 (broadcastInDim S1024x16 ![0, 1] bcast_S1024x1_S1024x16_0_1),
    StableHlo.reshape main_arg0 main_v6 rfl shapeCasts_S16x4096x1024_S65536x1024]

/-- The operations after the call: the first result's shape, and the second result. -/
abbrev opsAfter : List (HloOp τ sig (Elt F)) :=
  [StableHlo.reshape main_v7 main_v8 rfl shapeCasts_S1024x1024_S16x64x1024,
    StableHlo.nullary main_c (constantI S_ 32 64#32),
    StableHlo.unary main_c main_v9 (broadcastInDim S16 ![] bcast_S_S16)]

theorem main_eq (d : Dev nD) :
    main (F := F) d = (seq opsBefore >>= fun _ => (sc (F := F)).run d 0 >>= fun _ => seq opsAfter >>= fun _ => pure ⟨⟩) := rfl

variable (m : (ℓ : Loc nD τ sig) → Buf (Elt F) ℓ) (ρ : Dev nD → PrngReg)

abbrev xLoc (d : Dev nD) : Loc nD τ sig := (SparseCore.T d).loc main_v6
abbrev cLoc (d : Dev nD) : Loc nD τ sig := (SparseCore.T d).loc main_v5
abbrev oLoc (d : Dev nD) : Loc nD τ sig := (SparseCore.T d).loc main_v7

/-- The arrays at the launch, and when the call starts. -/
def V0 (d : Dev nD) : Valuation τ sig (Elt F) := fun b => m (d, b)
def V1 (d : Dev nD) : Valuation τ sig (Elt F) := after opsBefore (V0 m d)
/-- The features' rows and the factors the call reads. -/
def feats (d : Dev nD) : S65536x1024.Idx → F .f32 := V1 m d v6'
def factors (d : Dev nD) : S1024x16.Idx → F .f32 := V1 m d v5'

/-- What the call leaves in its result. -/
def outVal (d : Dev nD) : S1024x1024.Idx → F .f32 := fun y =>
  outRow (fun n h => feats m d (ix2 (Fin.ofNat 65536 n) h)) (fun n j => factors m d (ix2 (Fin.ofNat 1024 n) j)) (y 0).val (y 1)

/-- The arrays after the call, and when the program ends. -/
def V2 (d : Dev nD) : Valuation τ sig (Elt F) := Function.update (V1 m d) v7' (outVal m d)
def V3 (d : Dev nD) : Valuation τ sig (Elt F) := after opsAfter (V2 m d)

/-! ## What the handshakes carry -/

abbrev xV : Memref sig .scVector .hbm S65536x1024 .f32 := Memref.whole main_v6_scv
abbrev cV : Memref sig .scVector .hbm S1024x16 .f32 := Memref.whole main_v5_scv
abbrev oV : Memref sig .scVector .hbm S1024x1024 .f32 := Memref.whole main_v7_scv

/-- The point of the grid a tile runs. -/
def coordsV (c : Fin (grid0.bound 0)) (s : Fin (grid0.bound 1)) : grid0.Coords :=
  fun | 0 => c | 1 => s | ⟨_ + 2, h⟩ => absurd h (Nat.not_lt.2 (Nat.le_add_left _ _))

/-- The tile's share of the factors, and its four shares of the features. -/
def shC (c : Fin 2) (s : Fin 16) : PosShare TreeShare := Transfers.dealOf (Transfers.dealOf fullShare Finset.univ c) Finset.univ s
def shX (c : Fin 2) (s : Fin 16) (b : Fin 4) : PosShare TreeShare := Transfers.dealOf (shC c s) Finset.univ b

/-- The tile's rows of the result. -/
def rowsOf (d : Dev nD) (c : Fin 2) (s : Fin 16) : Finset (Idx (oLoc d)) :=
  rows d (coordsV c s) oV (g₀ (coordsV c s)) (g₀ (coordsV c s) + 32)

/-- What a tile gets: the features in four shares, the factors in one, its rows of the result. -/
def goP (d : Dev nD) (c : Fin 2) (s : Fin 16) : sProp 𝕄 :=
  iprop((bigSep Finset.univ fun b => xLoc d ↦{shX c s b} feats m d) ∗ (cLoc d ↦{shC c s} factors m d)
    ∗ oLoc d ↦[rowsOf d c s]{fullShare} m (oLoc d))

/-- What a tile gives back: its rows at the result's values. -/
def tdP (d : Dev nD) (c : Fin 2) (s : Fin 16) : sProp 𝕄 := iprop(oLoc d ↦[rowsOf d c s]{fullShare} outVal m d)

/-- A SparseCore gets what its sixteen tiles get and gives back what they give back. -/
def P : (K (F := F)).Pay (nD := nD) (Val := Elt F) (Name := ℕ) (U := UU) where
  st := fun q d c => match q with | 0 => bigSep Finset.univ fun s : Fin 16 => goP m d (Fin.cast nCore_zero c) s
  dn := fun q d c => match q with | 0 => bigSep Finset.univ fun s : Fin 16 => tdP m d (Fin.cast nCore_zero c) s
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance goP_storable (d : Dev nD) (c : Fin 2) (s : Fin 16) : BI.Storable (upEmb : UEmb _ 𝕄) (goP m d c s) := by
  unfold goP; infer_instance
instance tdP_storable (d : Dev nD) (c : Fin 2) (s : Fin 16) : BI.Storable (upEmb : UEmb _ 𝕄) (tdP m d c s) := by
  unfold tdP; infer_instance

instance P_storable : (P (F := F) m).IsStorable where
  st q d c := match q with
    | 0 => (inferInstance : BI.Storable (upEmb : UEmb _ 𝕄) (bigSep Finset.univ fun s : Fin 16 => goP m d (Fin.cast nCore_zero c) s))
  dn q d c := match q with
    | 0 => (inferInstance : BI.Storable (upEmb : UEmb _ 𝕄) (bigSep Finset.univ fun s : Fin 16 => tdP m d (Fin.cast nCore_zero c) s))
  go q d c i := match q with | 0 => goP_storable m d _ _
  td q d c i := match q with | 0 => tdP_storable m d _ _

/-! ## A tile's own memory -/

section Tile

variable (d : Dev nD) (i : grid0.Coords)

/-- A family over four is its four members. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- A family over six is its six members. -/
theorem bigSep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

/-- A family over a set is its members along an injective list of the set's elements, with the rest. -/
theorem bigSep_along {A : Type} [DecidableEq A] {n : ℕ} (S : Finset A) (e : Fin n → A) (he : Function.Injective e) (hS : ∀ k, e k ∈ S)
    (Φ : A → sProp 𝕄) :
    bigSep S Φ = iprop((bigSep Finset.univ fun k => Φ (e k)) ∗ bigSep (S \ Finset.univ.image e) Φ) := by
  have hsub : Finset.univ.image e ⊆ S := fun a ha => by
    obtain ⟨k, -, rfl⟩ := Finset.mem_image.mp ha; exact hS k
  conv_lhs => rw [← Finset.union_sdiff_of_subset hsub]
  rw [bigSep_union Finset.disjoint_sdiff]
  exact congrArg (fun X => iprop(X ∗ _)) (SparseCore.bigSep_image_of_injOn he.injOn Φ)

/-- The tile's buffers and its transfer cells, in the order its program takes them. -/
abbrev scr : Fin 6 → Ref sig .scVector := ![cc0_scratch0, cc0_scratch1, cc0_scratch2, cc0_scratch3, cc0_scratch4, cc0_scratch5]
abbrev cel : Fin 6 → SemLoc sig := ![.dma cc0_scratch6.sem, .dma cc0_scratch7.sem, .dma cc0_scratch8.sem, .dma cc0_scratch9.sem,
  .dma cc0_scratch10.sem, .dma cc0_scoped0.sem]

theorem scr_inj : Function.Injective scr := by decide
theorem cel_inj : Function.Injective cel := by decide
theorem cel_scoped : ∀ k, (cel k).isScoped .scVector = true := by decide

abbrev OwnV : sProp 𝕄 :=
  Own (F := F) d i (Memref.whole cc0_scratch0) (Memref.whole cc0_scratch1) (Memref.whole cc0_scratch2) (Memref.whole cc0_scratch3)
    (Memref.whole cc0_scratch4) (Memref.whole cc0_scratch5) cc0_scratch6 cc0_scratch7 cc0_scratch8 cc0_scratch9 cc0_scratch10 cc0_scoped0

/-- The tile's buffers are the six its program takes and the rest. -/
theorem ownBufs_th :
    (ownBufs (th d i) : sProp 𝕄)
      = iprop((bigSep Finset.univ fun k => iprop(∃ f, (th d i).loc (scr k) ↦{fullShare} f))
          ∗ bigSep (ownRefs (τ := τ) (th d i).2 \ Finset.univ.image fun k => (th d i).2.devRef (scr k))
              fun b => iprop(∃ f, ((d, b) : Loc nD τ sig) ↦{fullShare} f)) := by
  unfold SparseCore.Cfg.ownBufs
  exact bigSep_along _ (fun k => (th d i).2.devRef (scr k)) (fun a b h => scr_inj (Proc.devRef_injective _ h))
    (fun k => SparseCore.Cfg.mem_ownRefs_of_owner (p := (th d i).2) (b := (th d i).2.devRef (scr k)) (by fin_cases k <;> rfl)) _

/-- The tile's cells are the six its program takes and the rest. -/
theorem ownSems_th :
    (ownSems0 (th d i) : sProp 𝕄)
      = iprop((bigSep Finset.univ fun k => semVal (th d i, cel k) 0)
          ∗ bigSep (ownCells (th d i) \ Finset.univ.image fun k => ((th d i, cel k) : GSem nD τ sig)) fun g => semVal g 0) := by
  unfold SparseCore.Cfg.ownSems0
  exact bigSep_along _ (fun k => ((th d i, cel k) : GSem nD τ sig)) (fun a b h => cel_inj (Prod.mk.inj h).2)
    (fun k => (mem_ownCells (g := ((th d i, cel k) : GSem nD τ sig))).mpr ⟨rfl, cel_scoped k⟩) _

/-- The tile's own memory is what its program takes and the rest. -/
def restB : sProp 𝕄 :=
  bigSep (ownRefs (τ := τ) (th d i).2 \ Finset.univ.image fun k => (th d i).2.devRef (scr k))
    fun b => iprop(∃ f, ((d, b) : Loc nD τ sig) ↦{fullShare} f)
def restS : sProp 𝕄 :=
  bigSep (ownCells (th d i) \ Finset.univ.image fun k => ((th d i, cel k) : GSem nD τ sig)) fun g => semVal g 0

theorem own_split : iprop(ownBufs (th d i) ∗ ownSems0 (th d i)) ⊣⊢ iprop(OwnV (F := F) d i ∗ restB (F := F) d i ∗ restS (F := F) d i) := by
  rw [ownBufs_th, ownSems_th, bigSep_six, bigSep_six]
  unfold OwnV Own restB restS
  constructor
  · iintro ⟨⟨⟨A0, A1, A2, A3, A4, A5⟩, RB⟩, ⟨B0, B1, B2, B3, B4, B5⟩, RS⟩
    isplitl [A0 A1 A2 A3 A4 A5 B0 B1 B2 B3 B4 B5]
    · isplitl [A0]; · iexact A0
      isplitl [A1]; · iexact A1
      isplitl [A2]; · iexact A2
      isplitl [A3]; · iexact A3
      isplitl [A4]; · iexact A4
      isplitl [A5]; · iexact A5
      isplitl [B0]; · iexact B0
      isplitl [B1]; · iexact B1
      isplitl [B2]; · iexact B2
      isplitl [B3]; · iexact B3
      isplitl [B4]; · iexact B4
      iexact B5
    isplitl [RB] <;> iassumption
  · iintro ⟨⟨A0, A1, A2, A3, A4, A5, B0, B1, B2, B3, B4, B5⟩, RB, RS⟩
    isplitl [A0 A1 A2 A3 A4 A5 RB]
    · isplitl [A0 A1 A2 A3 A4 A5]
      · isplitl [A0]; · iexact A0
        isplitl [A1]; · iexact A1
        isplitl [A2]; · iexact A2
        isplitl [A3]; · iexact A3
        isplitl [A4]; · iexact A4
        iexact A5
      iexact RB
    isplitl [B0 B1 B2 B3 B4 B5]
    · isplitl [B0]; · iexact B0
      isplitl [B1]; · iexact B1
      isplitl [B2]; · iexact B2
      isplitl [B3]; · iexact B3
      isplitl [B4]; · iexact B4
      iexact B5
    iexact RS

end Tile

/-! ## A tile's obligation -/

/-- A tile's program, from its handshake's pieces to the pieces it gives back. -/
theorem tile_body (d : Dev nD) (c : Fin 2) (s : Fin 16) (hF : (K (F := F)).Facts) (O : CellTallies nD τ sig (HIx 1)) (W : Waits sig (HIx 1))
    (hO : ∀ g, O g none = 0) :
    iprop(levAts (K (F := F)).L (K (F := F)).lev ∗ emp ∗ goP m d c s
        ∗ scopedBufs (th d (coordsV c s)) ∗ scopedSems0 (th d (coordsV c s)) ∗ owes (th d (coordsV c s)) O W)
      ⊢ wp frame (wpE (defs₀ (F := F)) 𝒱₀ (th d (coordsV c s)) none) Set.univ
          (cc0_k (F := F) (coordsV c s) xV (Memref.isWhole_whole _) cV (Memref.isWhole_whole _) oV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scoped0)
          fun _ => iprop(tdP m d c s ∗ scopedBufs (th d (coordsV c s)) ∗ scopedSems0 (th d (coordsV c s))
            ∗ ∃ W', ⌜∀ p ∈ W', p ∈ W ∨ p.2 = none ∨ p.2 = some (0 : Fin 1)⌝ ∗ owes (th d (coordsV c s)) O W') := by
  rw [show scopedBufs (th d (coordsV c s)) = ownBufs (th d (coordsV c s)) from (K (F := F)).scopedBufs_V hF d _ _,
    show scopedSems0 (th d (coordsV c s)) = ownSems0 (th d (coordsV c s)) from SparseCore.Cfg.scopedSems0_V (Val := Elt F) d _ _]
  unfold goP
  rw [bigSep_four]
  iintro ⟨#Hlv, -, ⟨⟨X0, X1, X2, X3⟩, Hc, Ho⟩, Hbufs, Hsems, HO⟩
  ihave Hmw := (show levAts (K (F := F)).L (K (F := F)).lev ⊢ Transfers.MayWaits (th d (coordsV c s)) (none : HIx 1) O from
    (K (F := F)).mayWaits_none (thr := th d (coordsV c s)) hO) $$ Hlv
  ihave Hown := (own_split d (coordsV c s)).1 $$ [Hbufs Hsems]
  · isplitl [Hbufs] <;> iassumption
  icases Hown with ⟨Hown, RB, RS⟩
  iapply wp_wand_r
  isplitl [X0 X1 X2 X3 Hc Ho Hown HO Hmw]
  · iapply (wp_tile d (coordsV c s) xV (Memref.isWhole_whole _) cV (Memref.isWhole_whole _) oV (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scoped0
      (feats m d) (factors m d) (m (oLoc d)) (outVal m d) O W (shX c s) (shC c s) rfl)
    isplitl [X0]; · iexact X0
    isplitl [X1]; · iexact X1
    isplitl [X2]; · iexact X2
    isplitl [X3]; · iexact X3
    isplitl [Hc]; · iexact Hc
    isplitl [Ho]; · iexact Ho
    isplitl [Hown]; · iexact Hown
    isplitl [HO]
    · unfold Owing
      iexists W
      isplitr; · ipureintro; exact fun p hp => .inl hp
      iexact HO
    iexact Hmw
  iintro %_ ⟨Ho, Hown, HO⟩
  ihave Hb := (own_split d (coordsV c s)).2 $$ [Hown RB RS]
  · isplitl [Hown]; · iexact Hown
    isplitl [RB] <;> iassumption
  icases Hb with ⟨Hbufs, Hsems⟩
  unfold Owing tdP
  icases HO with ⟨%W', %hW, HO⟩
  isplitl [Ho]; · iexact Ho
  isplitl [Hbufs]; · iexact Hbufs
  isplitl [Hsems]; · iexact Hsems
  iexists W'
  isplitr; · ipureintro; exact fun p hp => (hW p hp).imp_right .inl
  iexact HO

theorem defs₀_vector (c : Fin τ.nSC) (s : Fin τ.nSub) :
    defs₀ (F := F) (.scVector c s) 0 ()
      = SparseCore.onTile hcore0 hsub0 (fun c s => cc0_k (F := F) (coordsV c s) xV (Memref.isWhole_whole _) cV (Memref.isWhole_whole _) oV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scoped0) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d ⟨_, hci.1⟩ ⟨_, hci.2⟩ hF O W hO

/-- What a SparseCore is handed is what its tiles are, and likewise back. -/
theorem vecSplit : (K (F := F)).VecSplit' (P m) 0 := by
  intro d c
  show (bigSep Finset.univ fun s : Fin 16 => goP m d (Fin.cast nCore_zero c) s) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i))
          -∗ bigSep Finset.univ fun s : Fin 16 => tdP m d (Fin.cast nCore_zero c) s))
  iintro H; imodintro
  isplitl [H]; · iexact H
  iintro H; iexact H

end Cert.Proof.KernelIdeal

end
-- ==== Proof.Host.lean ====
/-
  The host program: the three arrays of the call dealt to the thirty-two tiles and joined again, the operations before and after
  the call, and `run_main`: every execution ends with the arguments unchanged, the results at the values of `V3`, and every
  semaphore at zero.
-/
module

public import proofs.«01_k».proof.Proof.Launch

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr after wp_seq seq)
open Idealize.ShloMosaic.ValueIdx (ix1 ix2)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays dealt to the tiles and joined again -/

section Deal

variable {ℓ : Loc nD τ sig}

/-- An array read whole is read by every tile at its share. -/
theorem deal_tiles (f : Buf (Elt F) ℓ) :
    (ℓ ↦{fullShare} f : sProp 𝕄) = bigSep Finset.univ fun c : Fin 2 => bigSep Finset.univ fun s : Fin 16 => ℓ ↦{shC c s} f := by
  rw [Transfers.pointsTo_deal (Finset.univ : Finset (Fin 2)) Finset.univ_nonempty]
  exact bigSep_congr fun c _ => Transfers.pointsTo_deal (Finset.univ : Finset (Fin 16)) Finset.univ_nonempty _

/-- And each tile's share is dealt among its four buffers. -/
theorem deal_buffers (c : Fin 2) (s : Fin 16) (f : Buf (Elt F) ℓ) :
    (ℓ ↦{shC c s} f : sProp 𝕄) = bigSep Finset.univ fun b : Fin 4 => ℓ ↦{shX c s b} f :=
  Transfers.pointsTo_deal (Finset.univ : Finset (Fin 4)) Finset.univ_nonempty _

end Deal

/-- A tile's rows are those whose number lies in its thirty-two. -/
theorem mem_rowsOf (d : Dev nD) (c : Fin 2) (s : Fin 16) (y : S1024x1024.Idx) :
    (y : Idx (oLoc d)) ∈ rowsOf d c s ↔ 64 * s.val + 32 * c.val ≤ (y 0).val ∧ (y 0).val < 64 * s.val + 32 * c.val + 32 := by
  unfold rowsOf rows
  rw [Finset.mem_map]
  constructor
  · rintro ⟨x, hx, rfl⟩
    exact (Finset.mem_filter.mp hx).2
  · intro h
    exact ⟨y, Finset.mem_filter.mpr ⟨Finset.mem_univ _, h⟩, rfl⟩

/-- The result whole is every tile's rows of it. -/
theorem out_rows (d : Dev nD) (f : Buf (Elt F) (oLoc d)) :
    (oLoc d ↦{fullShare} f : sProp 𝕄)
      = bigSep Finset.univ fun c : Fin 2 => bigSep Finset.univ fun s : Fin 16 => oLoc d ↦[rowsOf d c s]{fullShare} f := by
  have h2 : ∀ c : Fin 2, ∀ s ∈ (Finset.univ : Finset (Fin 16)), ∀ s' ∈ (Finset.univ : Finset (Fin 16)), s ≠ s' → Disjoint (rowsOf d c s) (rowsOf d c s') := by
    intro c s _ s' _ hs
    rw [Finset.disjoint_left]
    intro y hy hy'
    have h := (mem_rowsOf d c s y).mp hy
    have h' := (mem_rowsOf d c s' y).mp hy'
    exact hs (Fin.ext (by omega))
  have h1 : ∀ c ∈ (Finset.univ : Finset (Fin 2)), ∀ c' ∈ (Finset.univ : Finset (Fin 2)), c ≠ c' →
      Disjoint (Finset.univ.biUnion fun s : Fin 16 => rowsOf d c s) (Finset.univ.biUnion fun s : Fin 16 => rowsOf d c' s) := by
    intro c _ c' _ hc
    rw [Finset.disjoint_left]
    intro y hy hy'
    obtain ⟨s, -, hs⟩ := Finset.mem_biUnion.mp hy
    obtain ⟨s', -, hs'⟩ := Finset.mem_biUnion.mp hy'
    have h := (mem_rowsOf d c s y).mp hs
    have h' := (mem_rowsOf d c' s' y).mp hs'
    exact hc (Fin.ext (by have := c.isLt; have := c'.isLt; omega))
  have hU : (Finset.univ.biUnion fun c : Fin 2 => Finset.univ.biUnion fun s : Fin 16 => rowsOf d c s) = (Finset.univ : Finset (Idx (oLoc d))) := by
    refine Finset.eq_univ_iff_forall.mpr fun y => ?_
    have hy : ((y : S1024x1024.Idx) 0).val < 1024 := (y 0).isLt
    refine Finset.mem_biUnion.mpr ⟨⟨((y : S1024x1024.Idx) 0).val / 32 % 2, by omega⟩, Finset.mem_univ _, Finset.mem_biUnion.mpr
      ⟨⟨((y : S1024x1024.Idx) 0).val / 64, by omega⟩, Finset.mem_univ _, (mem_rowsOf d _ _ y).mpr ⟨?_, ?_⟩⟩⟩
    · show 64 * (((y : S1024x1024.Idx) 0).val / 64) + 32 * (((y : S1024x1024.Idx) 0).val / 32 % 2) ≤ ((y : S1024x1024.Idx) 0).val; omega
    · show ((y : S1024x1024.Idx) 0).val < 64 * (((y : S1024x1024.Idx) 0).val / 64) + 32 * (((y : S1024x1024.Idx) 0).val / 32 % 2) + 32; omega
  rw [← hU, pointsTo_biUnion Finset.univ _ h1]
  exact bigSep_congr fun c _ => pointsTo_biUnion Finset.univ _ (h2 c)

/-- What the call takes: the features and the factors as the operations before it left them, and the result's array. -/
theorem st_intro (d : Dev nD) :
    iprop((xLoc d ↦{fullShare} feats m d) ∗ (cLoc d ↦{fullShare} factors m d) ∗ oLoc d ↦{fullShare} m (oLoc d))
      ⊢ bigSep Finset.univ fun c : Fin ((K (F := F)).nCore 0) => (P m).st 0 d c := by
  show _ ⊢ bigSep Finset.univ fun c : Fin 2 => bigSep Finset.univ fun s : Fin 16 => goP m d c s
  unfold goP
  rw [deal_tiles (ℓ := xLoc d), deal_tiles (ℓ := cLoc d), out_rows]
  simp only [deal_buffers, bigSep_sep']
  exact .rfl

/-- What the call gives back: the result's array at its values. -/
theorem dn_elim (d : Dev nD) :
    (bigSep Finset.univ fun c : Fin ((K (F := F)).nCore 0) => (P m).dn 0 d c) ⊢ (oLoc d ↦{fullShare} outVal m d : sProp 𝕄) := by
  show (bigSep Finset.univ fun c : Fin 2 => bigSep Finset.univ fun s : Fin 16 => tdP m d c s) ⊢ _
  unfold tdP
  rw [out_rows]

/-! ## The launch element -/

theorem bigSep_emp_all {A : Type} (s : Finset A) : (bigSep s fun _ => iprop(emp)) = (iprop(emp) : sProp 𝕄) := bigSep_emp_const s

def u₀ : UU := (initOf (K (F := F)).hsCells (K (F := F)).hsToks, 1)

/-- The handshakes' rounds; nothing of the kernel's own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp_all]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp_all]
  iempintro

/-! ## The program on the TensorCore -/

abbrev S0 : Finset (DevRef τ sig) := Pipeline.ucRefs τ sig
/-- The three arrays the call takes, and the four the claims read. -/
abbrev callRefs : Fin 3 → DevRef τ sig := ![v6', v5', v7']
abbrev a0' : DevRef τ sig := Proc.devRef .tc (main_arg0 : Ref sig .tc)
abbrev a1' : DevRef τ sig := Proc.devRef .tc (main_arg1 : Ref sig .tc)
abbrev v8' : DevRef τ sig := Proc.devRef .tc (main_v8 : Ref sig .tc)
abbrev v9' : DevRef τ sig := Proc.devRef .tc (main_v9 : Ref sig .tc)

theorem mem_S0 (r : Ref sig .tc) (h : r.isScoped = false) : Proc.devRef (τ := τ) .tc r ∈ S0 :=
  Finset.mem_filter.mpr ⟨StableHlo.devRef_mem_tcRefs r, by rw [Proc.isScoped_devRef, h]; exact Bool.false_ne_true⟩

theorem callRefs_inj : Function.Injective callRefs := by decide
theorem callRefs_mem : ∀ k, callRefs k ∈ S0 := by
  intro k; fin_cases k <;> exact mem_S0 _ rfl

/-- The four arrays the claims read: the arguments and the results. -/
abbrev finRefs : Fin 4 → DevRef τ sig := ![a0', a1', v8', v9']

/-- The arrays that stay when the call has taken its two operands. -/
abbrev S1 : Finset (DevRef τ sig) := insert v7' (S0 \ Finset.univ.image callRefs)

theorem mem_S1 (r : Ref sig .tc) (h : r.isScoped = false) (h6 : r ≠ main_v6) (h5 : r ≠ main_v5) : Proc.devRef (τ := τ) .tc r ∈ S1 := by
  by_cases h7 : r = main_v7
  · subst h7; exact Finset.mem_insert_self _ _
  · refine Finset.mem_insert_of_mem (Finset.mem_sdiff.mpr ⟨mem_S0 r h, fun hm => ?_⟩)
    obtain ⟨k, -, hk⟩ := Finset.mem_image.mp hm
    fin_cases k
    · exact h6 (Proc.devRef_injective _ hk).symm
    · exact h5 (Proc.devRef_injective _ hk).symm
    · exact h7 (Proc.devRef_injective _ hk).symm

theorem finRefs_inj : Function.Injective finRefs := by decide
theorem finRefs_mem : ∀ k, finRefs k ∈ S1 := by
  intro k; fin_cases k <;> exact mem_S1 _ rfl (by decide) (by decide)

theorem opsBefore_bufs : ∀ op ∈ opsBefore (F := F), op.bufs ⊆ S0 := by
  intro op hop
  refine Pipeline.sub_ucRefs op ?_
  revert op
  simp only [List.forall_mem_cons, StableHlo.reshape_bufs_sub, StableHlo.unary_bufs_sub, StableHlo.nullary_bufs_sub, StableHlo.binary_bufs_sub, true_and]
  exact fun _ h => nomatch h
theorem opsAfter_bufs : ∀ op ∈ opsAfter (F := F), op.bufs ⊆ S1 := by
  simp only [List.forall_mem_cons]
  refine ⟨?_, ?_, ?_, fun _ h => nomatch h⟩
  · show ({v7', v8'} : Finset (DevRef τ sig)) ⊆ S1
    exact Finset.insert_subset (mem_S1 main_v7 rfl (by decide) (by decide)) (Finset.singleton_subset_iff.mpr (mem_S1 main_v8 rfl (by decide) (by decide)))
  · show ({Proc.devRef .tc main_c} : Finset (DevRef τ sig)) ⊆ S1
    exact Finset.singleton_subset_iff.mpr (mem_S1 main_c rfl (by decide) (by decide))
  · show ({Proc.devRef .tc main_c, v9'} : Finset (DevRef τ sig)) ⊆ S1
    exact Finset.insert_subset (mem_S1 main_c rfl (by decide) (by decide)) (Finset.singleton_subset_iff.mpr (mem_S1 main_v9 rfl (by decide) (by decide)))
theorem opsBefore_fresh : ∀ op ∈ opsBefore (F := F), op.fresh = ∅ := by
  simp only [List.forall_mem_cons]
  exact ⟨rfl, rfl, rfl, rfl, rfl, rfl, rfl, rfl, fun _ h => nomatch h⟩
theorem opsAfter_fresh : ∀ op ∈ opsAfter (F := F), op.fresh = ∅ := by
  simp only [List.forall_mem_cons]
  exact ⟨rfl, rfl, rfl, fun _ h => nomatch h⟩

theorem bigSep_three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide),
    bigSep_singleton]

theorem V1_v7 (d : Dev nD) : V1 m d v7' = m (oLoc d) := by
  unfold V1; after_results; rfl

/-- Before the call: its three arrays and the rest. -/
theorem held_before (d : Dev nD) :
    (held (SparseCore.T d) S0 (V1 m d) : sProp 𝕄)
      = iprop(((xLoc d ↦{fullShare} feats m d) ∗ (cLoc d ↦{fullShare} factors m d) ∗ oLoc d ↦{fullShare} m (oLoc d))
          ∗ held (SparseCore.T d) (S0 \ Finset.univ.image callRefs) (V1 m d)) := by
  unfold held
  rw [bigSep_along S0 callRefs callRefs_inj callRefs_mem, bigSep_three]
  rw [← V1_v7 m d]
  rfl

/-- After it: the result's array with the rest. -/
theorem held_after (d : Dev nD) :
    (held (SparseCore.T d) S1 (V2 m d) : sProp 𝕄)
      = iprop((oLoc d ↦{fullShare} outVal m d) ∗ held (SparseCore.T d) (S0 \ Finset.univ.image callRefs) (V1 m d)) := by
  have h7 : v7' ∉ S0 \ Finset.univ.image callRefs := fun h => (Finset.mem_sdiff.mp h).2 (Finset.mem_image.mpr ⟨2, Finset.mem_univ _, rfl⟩)
  have hne : ∀ b ∈ S0 \ Finset.univ.image callRefs, V1 m d b = V2 m d b := fun b hb =>
    (Function.update_of_ne (fun e : b = v7' => h7 (e ▸ hb)) _ _).symm
  rw [held_congr (SparseCore.T d) hne]
  unfold held
  rw [SparseCore.bigSep_insert' h7]
  rw [show V2 m d v7' = outVal m d from Function.update_self _ _ _]

/-- What the program leaves the claims: the arguments and the results. -/
abbrev FIN (d : Dev nD) : sProp 𝕄 := bigSep Finset.univ fun k => ((d, finRefs k) : Loc nD τ sig) ↦{fullShare} V3 m d (finRefs k)

theorem held_end (d : Dev nD) :
    (held (SparseCore.T d) S1 (V3 m d) : sProp 𝕄) ⊢ FIN m d := by
  unfold held
  rw [bigSep_along S1 finRefs finRefs_inj finRefs_mem]
  iintro ⟨H, -⟩
  iexact H

/-- The program on a device's TensorCore: the operations before the call, the call, the operations after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) S0 (V0 m d) from
    Pipeline.unscopedBufs_held d (V0 m d)]
  iintro ⟨#Hctx, Hst, ⟨Hb, Hheld, Hts, -⟩, -⟩
  iapply (wp_seq 𝒱 none Set.univ d S0 _ opsBefore opsBefore_bufs opsBefore_fresh (V0 m d)) $$ [Hb Hheld]
  · isplitl [Hb] <;> iassumption
  iintro ⟨Hb, Hheld⟩
  ihave Hh := (show held d.tc S0 (after opsBefore (V0 m d)) ⊢ _ from Entails.of_eq (held_before m d)) $$ Hheld
  icases Hh with ⟨Hcall, Hrest⟩
  rw [wp_bind]
  iapply ((K (F := F)).wp_run (D (F := F)) 𝒱 (EH := EH) (P := P m) κ d 0) $$ [Hst Hcall Hb Hrest Hts]
  isplitr; · iexact Hctx
  isplitl [Hst]; · iexact Hst
  isplitl [Hcall]; · iapply (st_intro m d); iexact Hcall
  iintro ⟨Hst, Hdn⟩
  ihave Ho := (dn_elim m d) $$ Hdn
  iapply (wp_seq 𝒱 none Set.univ d S1 _ opsAfter opsAfter_bufs opsAfter_fresh (V2 m d)) $$ [Hb Ho Hrest]
  · isplitl [Hb]; · iexact Hb
    iapply (Entails.of_eq (held_after m d).symm)
    isplitl [Ho] <;> iassumption
  iintro ⟨Hb, Hheld⟩
  rw [wp_pure]; imodintro
  isplitl [Hst]; · iexact Hst
  isplitl [Hheld]; · iapply (held_end m d); iexact Hheld
  isplitl [Hb] <;> iassumption

/-! ## The run -/

/-- What the claims read of a device's final state. -/
def fq (d : Dev nD) (s' : Phys nD τ sig (Elt F)) : Prop := ∀ k, s'.mem.mem (d, finRefs k) = V3 m d (finRefs k)

theorem hfin (d : Dev nD) (s' : Phys nD τ sig (Elt F)) : iprop(FIN m d ∗ SI s') ⊢ (⌜fq m d s'⌝ : sProp 𝕄) := by
  unfold FIN
  rw [bigSep_four]
  iintro ⟨⟨H0, H1, H2, H3⟩, HSI⟩
  ihave H := (persistent_entails_right (SI_pointsTo_agree (st := s') (ℓ := (d, finRefs 0)) (I := Finset.univ) (q := fullShare) (f := V3 m d (finRefs 0)))) $$ [HSI H0]
  · isplitl [HSI] <;> iassumption
  icases H with ⟨%h0, HSI, -⟩
  ihave H := (persistent_entails_right (SI_pointsTo_agree (st := s') (ℓ := (d, finRefs 1)) (I := Finset.univ) (q := fullShare) (f := V3 m d (finRefs 1)))) $$ [HSI H1]
  · isplitl [HSI] <;> iassumption
  icases H with ⟨%h1, HSI, -⟩
  ihave H := (persistent_entails_right (SI_pointsTo_agree (st := s') (ℓ := (d, finRefs 2)) (I := Finset.univ) (q := fullShare) (f := V3 m d (finRefs 2)))) $$ [HSI H2]
  · isplitl [HSI] <;> iassumption
  icases H with ⟨%h2, HSI, -⟩
  ihave H := (SI_pointsTo_agree (st := s') (ℓ := (d, finRefs 3)) (I := Finset.univ) (q := fullShare) (f := V3 m d (finRefs 3))) $$ [HSI H3]
  · isplitl [HSI] <;> iassumption
  icases H with %h3
  ipureintro
  intro k
  fin_cases k
  · exact funext fun x => h0 x (Finset.mem_univ x)
  · exact funext fun x => h1 x (Finset.mem_univ x)
  · exact funext fun x => h2 x (Finset.mem_univ x)
  · exact funext fun x => h3 x (Finset.mem_univ x)

/-- The final states: every device's arguments and results as the program leaves them, every semaphore at zero. -/
def QC : PUnit × MemSt nD τ sig (Elt F) → Prop := fun r => (∀ c : Dev nD, ∀ k, r.2.mem (c, finRefs k) = V3 m c (finRefs k)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m launchFacts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- The arguments are as they were at the launch. -/
theorem V3_arg0 (d : Dev nD) : V3 m d a0' = m (d, a0') := by
  unfold V3; after_results
  rw [show V2 m d a0' = V1 m d a0' from Function.update_of_ne (by decide) _ _]
  unfold V1; after_results; rfl
theorem V3_arg1 (d : Dev nD) : V3 m d a1' = m (d, a1') := by
  unfold V3; after_results
  rw [show V2 m d a1' = V1 m d a1' from Function.update_of_ne (by decide) _ _]
  unfold V1; after_results; rfl

/-- The run leaves the arguments as they were and every semaphore at zero. -/
theorem run_frame [∀ e, Nonempty (Elt F e)] :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun _ h => ⟨fun c => ⟨(h.1 c 0).trans (V3_arg0 m c), (h.1 c 1).trans (V3_arg1 m c)⟩, h.2⟩) (run_main m ρ)

end Cert.Proof.KernelIdeal

end
-- ==== Proof.Segments.lean ====
/-
  The segment numbers of the reference, where every group has sixty-four rows: the running sums of the group sizes are the
  multiples of sixty-four, so row `n` of the flattened batch lies in the flattened group `n / 64`, every group number is in range,
  and the row's factor is the reciprocal of sixty-four.
-/
module

public import proofs.«01_k».proof.Proof.Gen.ReferenceIdeal
public import proofs.«01_k».proof.Proof.Gen.ReferenceIdeal.Run
public import Idealize.ShloMosaic.Lib.IdealHost
public import Idealize.ShloMosaic.Lib.ReduceAll
public import Idealize.ShloMosaic.Lib.Routing.Ops
public import Idealize.ShloMosaic.Lib.Routing.OpsPair
public import Idealize.ShloMosaic.Lib.Routing.OpsSearch

@[expose] public section

noncomputable section

namespace Cert.Proof.ReferenceIdeal

open Cert.ReferenceIdeal Cert.ReferenceIdeal.Gen

open Idealize.ShloMosaic Idealize.SL.Sem
open Idealize.ShloMosaic.Routing Idealize.ShloMosaic.ValueIdx
open Idealize.ShloMosaic.StableHlo.Predicate (toNat_setWidth_bit toNat_fold_addi toInt_ofNat_small sle_ofNat_iff)

/-! ## Integer operations at an index -/

/-- The running sum along each row of an array that holds sixty-four everywhere: entry `j` of a row is `64 (j + 1)`. -/
theorem runningSum_const {A : ℕ} (x : IVec (shape2 A 64) 32) (hx : ∀ i, x i = 64#32) (init : IVec shape0 32) (hinit : init ix0 = 0#32)
    (h : (shape2 A 64).ReduceWindows (![1, 64] : Fin 2 → ℕ) ![1, 1] ![0, 63] ![0, 0] (shape2 A 64)) (hu : 0 < shape0.numel)
    (i : Fin A) (j : Fin 64) :
    Host.reduceWindow IntOp.addi ![1, 64] ![1, 1] ![0, 63] ![0, 0] x init h hu (ix2 i j) = BitVec.ofNat 32 (64 * (j.val + 1)) := by
  have hv : init (Shape.Idx.first hu) = BitVec.ofNat 32 0 := (congrArg init (eq_ix0 _)).trans hinit
  have hi := i.isLt
  have hj := j.isLt
  unfold Host.reduceWindow
  refine (foldl_addi_ofNat _ _ (fun n => if 63 ≤ j.val + n.val then 64 else 0) (fun n _ => ?_) _ 0 hv).trans ?_
  · have hw0 : ((shape2 1 64).rowMajor.symm n 0).val = 0 := by rw [symm2]; rfl
    have hw1 : ((shape2 1 64).rowMajor.symm n 1).val = n.val := by rw [symm2]; rfl
    have hn : n.val < 64 := (n.cast (numel2 64)).isLt
    have key : (∀ a : Fin 2, (![0, 63] : Fin 2 → ℕ) a
          ≤ ((ix2 i j : (shape2 A 64).Idx) a).val * (![1, 1] : Fin 2 → ℕ) a + ((shape2 1 64).rowMajor.symm n a).val
        ∧ ((ix2 i j : (shape2 A 64).Idx) a).val * (![1, 1] : Fin 2 → ℕ) a + ((shape2 1 64).rowMajor.symm n a).val - (![0, 63] : Fin 2 → ℕ) a
          < (shape2 A 64).size a) ↔ 63 ≤ j.val + n.val := by
      rw [Fin.forall_fin_two]
      show (0 ≤ i.val * 1 + ((shape2 1 64).rowMajor.symm n 0).val ∧ i.val * 1 + ((shape2 1 64).rowMajor.symm n 0).val - 0 < A)
        ∧ (63 ≤ j.val * 1 + ((shape2 1 64).rowMajor.symm n 1).val ∧ j.val * 1 + ((shape2 1 64).rowMajor.symm n 1).val - 63 < 64) ↔ _
      rw [hw0, hw1]
      omega
    dsimp only
    split
    · next hin => rw [if_pos (key.1 hin)]; exact hx _
    · next hin => rw [if_neg fun hle => hin (key.2 hle)]; exact hv
  · rw [Nat.zero_add, map_finRange_val _ (fun w => if 63 ≤ j.val + w then 64 else 0)]
    refine congrArg (BitVec.ofNat 32) ((congrArg (fun M => ((List.range M).map fun w => if 63 ≤ j.val + w then 64 else 0).sum)
      (numel2 64)).trans ((sum_window (fun _ => 64) 63 j.val (by omega)).trans ?_))
    rw [List.map_const', List.sum_replicate, List.length_range, smul_eq_mul, Nat.mul_comm]

/-- Summing the widened bits of a box along its last axis counts the positions there whose bit is set. -/
theorem count_last {A B C : ℕ} (hC : C < 2 ^ 32) (msk : IVec (shape3 A B C) 1) (hw : 1 < 32)
    (h : (shape3 A B C).ReducesTo [2] (shape2 A B)) (hu : 0 < shape0.numel) (p : Fin A) (q : Fin B) :
    Host.reduce IntOp.addi (extui 32 msk hw) (constantI shape0 32 0#32) h hu (ix2 p q)
      = BitVec.ofNat 32 (Finset.univ.filter fun r : Fin C => msk (ix3 p q r) = 1#1).card := by
  classical
  have hval : ∀ i, (extui 32 msk hw i).toNat = if msk i = 1#1 then 1 else 0 := fun i => toNat_setWidth_bit (msk i)
  have hdrop : ∀ i : (shape3 A B C).Idx, h.drop i = ix2 p q ↔ i 0 = p ∧ i 1 = q := by
    intro i
    have h0 : (h.drop i 0 : ℕ) = i 0 := Shape.ReducesTo.drop_apply_val h i 0
    have h1 : (h.drop i 1 : ℕ) = i 1 := Shape.ReducesTo.drop_apply_val h i 1
    constructor
    · intro e
      rw [e] at h0 h1
      exact ⟨Fin.ext h0.symm, Fin.ext h1.symm⟩
    · rintro ⟨e0, e1⟩
      funext b
      match b with
      | ⟨0, _⟩ => exact Fin.ext (h0.trans (congrArg Fin.val e0))
      | ⟨1, _⟩ => exact Fin.ext (h1.trans (congrArg Fin.val e1))
  have hback : ∀ i : (shape3 A B C).Idx, h.drop i = ix2 p q → ix3 p q (i 2) = i := fun i hi => by
    obtain ⟨e0, e1⟩ := (hdrop i).1 hi
    rw [eq_ix3 i]
    subst e0 e1
    rfl
  have hsum : ∑ i ∈ Finset.univ.filter (fun i : (shape3 A B C).Idx => h.drop i = ix2 p q), (extui 32 msk hw i).toNat
      = (Finset.univ.filter fun r : Fin C => msk (ix3 p q r) = 1#1).card := by
    rw [Finset.card_filter]
    refine Finset.sum_bij' (fun i _ => i 2) (fun r _ => ix3 p q r) (fun _ _ => Finset.mem_univ _)
      (fun r _ => Finset.mem_filter.2 ⟨Finset.mem_univ _, (hdrop _).2 ⟨rfl, rfl⟩⟩)
      (fun i hi => hback i (Finset.mem_filter.1 hi).2) (fun _ _ => rfl) ?_
    intro i hi
    rw [hval]
    exact (congrArg (fun x => if msk x = 1#1 then 1 else 0) (hback i (Finset.mem_filter.1 hi).2)).symm
  have hle : (Finset.univ.filter fun r : Fin C => msk (ix3 p q r) = 1#1).card < 2 ^ 32 :=
    lt_of_le_of_lt (Finset.card_le_univ _) (by simpa using hC)
  apply BitVec.eq_of_toNat_eq
  rw [BitVec.toNat_ofNat, Nat.mod_eq_of_lt hle, Host.reduce_eq_fold]
  show (Finset.fold IntOp.addi 0#32 (extui 32 msk hw) (Finset.univ.filter fun i : (shape3 A B C).Idx => h.drop i = ix2 p q)).toNat = _
  rw [toNat_fold_addi _ _ (by rw [hsum]; exact hle), hsum]

/-- Of the sixty-four ends `64 (g + 1)`, those at or before position `p` are `p / 64` in number. -/
theorem ends_before (p : ℕ) (hp : p < 4096) :
    (Finset.univ.filter fun g : Fin 64 => 64 * (g.val + 1) ≤ p).card = p / 64 := by
  have e : (Finset.univ.filter fun g : Fin 64 => 64 * (g.val + 1) ≤ p) = Finset.univ.filter fun g : Fin 64 => g.val < p / 64 :=
    Finset.filter_congr fun g _ => by omega
  have k : ∀ c : Fin 64, (Finset.univ.filter fun g : Fin 64 => g.val < c.val).card = c.val := by decide
  rw [e]
  exact k ⟨p / 64, by omega⟩

/-! ## The reference's tables, named -/

/-- The running sums of the group sizes. -/
def ends (g : IVec S16x64 32) : IVec S16x64 32 :=
  Host.reduceWindow IntOp.addi ![1, 64] ![1, 1] ![0, 63] ![0, 0] g (broadcastInDim S_ ![] bcast_S_S_ (constantI S_ 32 0#32))
    reduceWindows_S16x64_S16x64_w1s1p0_0_w64s1p63_0 h_S_

/-- For each position of a batch and each of its groups, whether the group has ended by then. -/
def done (g : IVec S16x64 32) : IVec S16x4096x64 1 :=
  cmpi .sle
    (broadcastInDim S16x4096x64 ![0, 1, 2] bcast_S16x1x64_S16x4096x64_0_1_2 (broadcastInDim S16x1x64 ![0, 2] bcast_S16x64_S16x1x64_0_2 (ends g)))
    (broadcastInDim S16x4096x64 ![0, 1, 2] bcast_S1x4096x1_S16x4096x64_0_1_2
      (broadcastInDim S1x4096x1 ![1] bcast_S4096_S1x4096x1_1 (iotaInDim S4096 32 0)))

/-- How many groups of its batch end at or before each position. -/
def passed (g : IVec S16x64 32) : IVec S16x4096 32 :=
  Host.reduce IntOp.addi (extui 32 (done g) natLt_1_32) (constantI S_ 32 0#32) reducesTo_S16x4096x64_S16x4096_d2 h_S_

/-- The first flattened group number of each row's batch. -/
def firsts : IVec S16x4096 32 :=
  broadcastInDim S16x4096 ![0, 1] bcast_S16x1_S16x4096_0_1
    (muli (broadcastInDim S16x1 ![] bcast_S_S16x1 (constantI S_ 32 64#32))
      (broadcastInDim S16x1 ![0] bcast_S16_S16x1_0 (iotaInDim S16 32 0)))

/-- The flattened group number of each row of the flattened batch. -/
def segs (g : IVec S16x64 32) : IVec S65536 32 :=
  shapeCast _ (addi (minsi (passed g) (broadcastInDim S16x4096 ![] bcast_S_S16x4096 (constantI S_ 32 63#32))) firsts)
    shapeCasts_S16x4096_S65536

/-- The group numbers with negative ones wrapped, as a column. -/
def wrapped (g : IVec S16x64 32) : IVec S65536x1 32 :=
  broadcastInDim S65536x1 ![0] bcast_S65536_S65536x1_0
    (select (cmpi .slt (segs g) (broadcastInDim S65536 ![] bcast_S_S65536 (constantI S_ 32 0#32)))
      (addi (segs g) (broadcastInDim S65536 ![] bcast_S_S65536 (constantI S_ 32 1024#32))) (segs g))

/-! ## Their entries where every group has sixty-four rows -/

/-- The running sums are the multiples of sixty-four. -/
theorem ends_at (g : IVec S16x64 32) (hg : ∀ i, g i = 64#32) (b : Fin 16) (j : Fin 64) :
    ends g (ix2 b j) = BitVec.ofNat 32 (64 * (j.val + 1)) :=
  runningSum_const g hg _ rfl _ _ b j

/-- The box of ends repeats the ends of a batch at every position. -/
theorem endsBox_at (v : IVec S16x64 32) (b : Fin 16) (p : Fin 4096) (j : Fin 64) :
    broadcastInDim S16x4096x64 ![0, 1, 2] bcast_S16x1x64_S16x4096x64_0_1_2 (broadcastInDim S16x1x64 ![0, 2] bcast_S16x64_S16x1x64_0_2 v)
      (ix3 b p j) = v (ix2 b j) := by
  refine (broadcastInDim_apply _ _ _ _ (ix3 b (0 : Fin 1) j) fun a => ?_).trans (broadcastInDim_apply _ _ _ _ (ix2 b j) fun a => ?_)
  · match a with
    | ⟨0, _⟩ => rfl
    | ⟨1, _⟩ => rfl
    | ⟨2, _⟩ => rfl
  · match a with
    | ⟨0, _⟩ => rfl
    | ⟨1, _⟩ => rfl

/-- The box of positions holds the position, in every batch and for every group. -/
theorem positionBox_at (v : IVec S4096 32) (b : Fin 16) (p : Fin 4096) (j : Fin 64) :
    broadcastInDim S16x4096x64 ![0, 1, 2] bcast_S1x4096x1_S16x4096x64_0_1_2 (broadcastInDim S1x4096x1 ![1] bcast_S4096_S1x4096x1_1 v)
      (ix3 b p j) = v (ix1 p) := by
  refine (broadcastInDim_apply _ _ _ _ (ix3 (0 : Fin 1) p (0 : Fin 1)) fun a => ?_).trans (broadcastInDim_apply _ _ _ _ (ix1 p) fun a => ?_)
  · match a with
    | ⟨0, _⟩ => rfl
    | ⟨1, _⟩ => rfl
    | ⟨2, _⟩ => rfl
  · match a with
    | ⟨0, _⟩ => rfl

/-- Group `j` has ended by position `p` exactly where `64 (j + 1) ≤ p`. -/
theorem done_at (g : IVec S16x64 32) (hg : ∀ i, g i = 64#32) (b : Fin 16) (p : Fin 4096) (j : Fin 64) :
    done g (ix3 b p j) = 1#1 ↔ 64 * (j.val + 1) ≤ p.val := by
  have hp := p.isLt
  have hj := j.isLt
  have e : done g (ix3 b p j) = IntOp.cmpi .sle (BitVec.ofNat 32 (64 * (j.val + 1))) (BitVec.ofNat 32 p.val) :=
    congrArg₂ (IntOp.cmpi .sle) ((endsBox_at (ends g) b p j).trans (ends_at g hg b j)) ((positionBox_at _ b p j).trans rfl)
  have t1 : (BitVec.ofNat 32 (64 * (j.val + 1))).toNat = 64 * (j.val + 1) := by rw [BitVec.toNat_ofNat]; omega
  have t2 : (BitVec.ofNat 32 p.val).toNat = p.val := by rw [BitVec.toNat_ofNat]; omega
  rw [e, StableHlo.Predicate.sle_iff_toNat (by rw [t1]; omega) (by rw [t2]; omega), t1, t2]

/-- At position `p` of a batch, `p / 64` of its groups have ended. -/
theorem passed_at (g : IVec S16x64 32) (hg : ∀ i, g i = 64#32) (b : Fin 16) (p : Fin 4096) :
    passed g (ix2 b p) = BitVec.ofNat 32 (p.val / 64) := by
  refine (count_last (by decide) (done g) natLt_1_32 reducesTo_S16x4096x64_S16x4096_d2 h_S_ b p).trans (congrArg (BitVec.ofNat 32) ?_)
  exact (congrArg Finset.card (Finset.filter_congr fun j _ => done_at g hg b p j)).trans (ends_before p.val p.isLt)

/-- Batch `b`'s first flattened group is `64 b`. -/
theorem firsts_at (b : Fin 16) (p : Fin 4096) : firsts (ix2 b p) = 64#32 * BitVec.ofNat 32 b.val := by
  refine (broadcastInDim_apply _ _ _ _ (ix2 b (0 : Fin 1)) fun a => ?_).trans ?_
  · match a with
    | ⟨0, _⟩ => rfl
    | ⟨1, _⟩ => rfl
  · exact congrArg (64#32 * ·) ((bcCol bcast_S16_S16x1_0 (iotaInDim S16 32 0) b).trans rfl)

/-- Row `n` of the flattened batch lies in the flattened group `n / 64`. -/
theorem segs_at (g : IVec S16x64 32) (hg : ∀ i, g i = 64#32) (n : Fin 65536) :
    segs g (ix1 n) = BitVec.ofNat 32 (n.val / 64) := by
  have hn := n.isLt
  have hb : n.val / 4096 < 16 := by omega
  have hp : n.val % 4096 < 4096 := by omega
  have hmin : ∀ c : Fin 64, IntOp.minsi (BitVec.ofNat 32 c.val) 63#32 = BitVec.ofNat 32 c.val := by decide
  refine (cast21 _ shapeCasts_S16x4096_S65536 (⟨_, hb⟩ : Fin 16) (⟨_, hp⟩ : Fin 4096) n
    (by show n.val = n.val / 4096 * 4096 + n.val % 4096; omega)).trans ?_
  have e : IntOp.minsi (passed g (ix2 (⟨_, hb⟩ : Fin 16) (⟨_, hp⟩ : Fin 4096))) 63#32 = BitVec.ofNat 32 (n.val % 4096 / 64) := by
    rw [passed_at g hg]
    exact hmin ⟨n.val % 4096 / 64, by omega⟩
  refine (congrArg₂ (· + ·) e (firsts_at _ _)).trans ?_
  apply BitVec.eq_of_toNat_eq
  rw [BitVec.toNat_add, BitVec.toNat_mul]
  simp only [BitVec.toNat_ofNat]
  omega

/-- No group number is negative, so none is wrapped. -/
theorem wrapped_at (g : IVec S16x64 32) (hg : ∀ i, g i = 64#32) (n : Fin 65536) :
    wrapped g (ix2 n (0 : Fin 1)) = BitVec.ofNat 32 (n.val / 64) := by
  have hn := n.isLt
  refine (bcCol _ _ n).trans ?_
  show Scalar.select (IntOp.cmpi .slt (segs g (ix1 n)) 0#32) _ (segs g (ix1 n)) = _
  rw [wrap_of_lt _ _ (by rw [segs_at g hg n, BitVec.toNat_ofNat]; omega), segs_at g hg n]

end Cert.Proof.ReferenceIdeal

end
-- ==== Proof.Reference.lean ====
/-
  The first result of the reference where every group has sixty-four rows: entry `(b, g, h)` is the sum over the sixty-four
  rows of group `g` of batch `b` of the features at column `h`, each times the reciprocal of sixty-four.
-/
module

public import proofs.«01_k».proof.Proof.Segments

@[expose] public section

noncomputable section

namespace Cert.Proof.ReferenceIdeal

open Cert.ReferenceIdeal Cert.ReferenceIdeal.Gen

open Idealize.ShloMosaic Idealize.SL.Sem
open Idealize.ShloMosaic.Routing Idealize.ShloMosaic.ValueIdx

/-! ## The rows' factors -/

/-- The reciprocal of sixty-four, as an extended real. -/
def inv64 : EReal := ((1 / 64 : ℝ) : EReal)

theorem ofBits_neg_one : Ideal.ofBits .f32 0xBF800000#32 = (((-1 : ℝ)) : EReal) := by
  simp [Ideal.ofBits, Ideal.ieee, -EReal.coe_mul]
  norm_num

/-- The signed value of a word of sixty-four, raised to the power minus one. -/
theorem pow_inv64 : Ideal.pow (((64#32 : BitVec 32).toInt : ℝ) : EReal) (Ideal.ofBits .f32 0xBF800000#32) = inv64 := by
  have h : ((64#32 : BitVec 32).toInt : ℝ) = 64 := by
    have : (64#32 : BitVec 32).toInt = 64 := by decide
    rw [this]; norm_num
  rw [ofBits_neg_one, h, Ideal.pow_coe_coe]
  unfold inv64
  congr 1
  show (64 : ℝ) ^ (-1 : ℝ) = 1 / 64
  rw [Real.rpow_neg_one]
  norm_num

/-- The factors of the flattened groups. -/
def factorTable (g : IVec S16x64 32) : FVec Ideal S1024 .f32 :=
  shapeCast _ (Host.powf (sitofp .f32 g) (broadcastInDim S16x64 ![] bcast_S_S16x64 (constant S_ .f32 0xBF800000#32))) shapeCasts_S16x64_S1024

/-- Whether each row's group number is in range, as a column. -/
def rangeColumn (g : IVec S16x64 32) : IVec S65536x1 1 :=
  andi (cmpi .sge (wrapped g) (broadcastInDim S65536x1 ![] bcast_S_S65536x1 (constantI S_ 32 0#32)))
    (cmpi .sle (wrapped g) (broadcastInDim S65536x1 ![0, 1] bcast_S1x1_S65536x1_0_1 (broadcastInDim S1x1 ![1] bcast_S1_S1x1_1 (constantI S1 32 1023#32))))

/-- Which rows' group numbers are in range. -/
def inRange (g : IVec S16x64 32) : IVec S65536 1 :=
  Host.reduce IntOp.andi (rangeColumn g) (constantI S_ 1 1#1) reducesTo_S65536x1_S65536_d1 h_S_

/-- The factor of each row, taken from the table by the row's group number. -/
def rowFactors (g : IVec S16x64 32) : FVec Ideal S65536 .f32 :=
  select (inRange g) (Host.gather gather_S1024_S65536x1_S65536_n_0_n_n_0_1_1 (factorTable g) (wrapped g))
    (broadcastInDim S65536 ![] bcast_S_S65536 (constant S_ .f32 0x7FC00000#32))

theorem factorTable_at (g : IVec S16x64 32) (hg : ∀ i, g i = 64#32) (k : Fin 1024) : factorTable g (ix1 k) = inv64 := by
  have hk := k.isLt
  have hb : k.val / 64 < 16 := by omega
  have hp : k.val % 64 < 64 := by omega
  refine (cast21 _ shapeCasts_S16x64_S1024 (⟨_, hb⟩ : Fin 16) (⟨_, hp⟩ : Fin 64) k
    (by show k.val = k.val / 64 * 64 + k.val % 64; omega)).trans ?_
  refine Eq.trans ?_ pow_inv64
  exact congrArg (fun w : BitVec 32 => Ideal.pow ((w.toInt : ℝ) : EReal) (Ideal.ofBits .f32 0xBF800000#32)) (hg _)

/-- Every row's group number is in range. -/
theorem rangeColumn_at (g : IVec S16x64 32) (hg : ∀ i, g i = 64#32) (k : Fin 65536) : rangeColumn g (ix2 k (0 : Fin 1)) = 1#1 := by
  have hlt := k.isLt
  have t : (BitVec.ofNat 32 (k.val / 64)).toNat = k.val / 64 := by rw [BitVec.toNat_ofNat]; omega
  have h1 : IntOp.cmpi .sge (wrapped g (ix2 k (0 : Fin 1))) 0#32 = 1#1 := by
    rw [wrapped_at g hg, StableHlo.Predicate.sge_iff_toNat (by rw [t]; omega) (by decide)]
    exact Nat.zero_le _
  have h2 : IntOp.cmpi .sle (wrapped g (ix2 k (0 : Fin 1))) 1023#32 = 1#1 := by
    rw [wrapped_at g hg, StableHlo.Predicate.sle_iff_toNat (by rw [t]; omega) (by decide), t]
    show k.val / 64 ≤ 1023
    omega
  exact IntOp.andi_eq_one.2 ⟨h1, h2⟩

/-- So the conjunction along the column's one place holds at every row. -/
theorem inRange_at (g : IVec S16x64 32) (hg : ∀ i, g i = 64#32) (n : S65536.Idx) : inRange g n = 1#1 := by
  unfold inRange
  refine Host.reduce_andi_one (rangeColumn g) _ _ _ _ rfl fun i => ?_
  have e : i = ix2 (i 0) (0 : Fin 1) := (eq_ix2 i).trans (congrArg (ix2 (i 0)) (Subsingleton.elim (α := Fin 1) _ _))
  rw [e]
  exact rangeColumn_at g hg (i 0)

/-- Every row's factor is the reciprocal of sixty-four. -/
theorem rowFactors_at (g : IVec S16x64 32) (hg : ∀ i, g i = 64#32) (n : Fin 65536) : rowFactors g (ix1 n) = inv64 := by
  have hn := n.isLt
  have hk : n.val / 64 < 1024 := by omega
  have e : Host.gather gather_S1024_S65536x1_S65536_n_0_n_n_0_1_1 (factorTable g) (wrapped g) (ix1 n) = factorTable g (ix1 ⟨n.val / 64, hk⟩) :=
    take_ap (N := 1024) (n := 65536) (k := n.val / 64) gather_S1024_S65536x1_S65536_n_0_n_n_0_1_1 rfl rfl rfl rfl (factorTable g) (wrapped g) n hk
      (by omega) (wrapped_at g hg n)
  unfold rowFactors
  rw [select_apply, inRange_at g hg, select_one, e, factorTable_at g hg]

/-! ## The sum over a group -/

/-- The features as rows of the flattened batch, each times its factor. -/
def scaled (x : FVec Ideal S16x4096x1024 .f32) (g : IVec S16x64 32) : FVec Ideal S65536x1024 .f32 :=
  mulf (shapeCast _ x shapeCasts_S16x4096x1024_S65536x1024)
    (broadcastInDim S65536x1024 ![0, 1] bcast_S65536x1_S65536x1024_0_1 (broadcastInDim S65536x1 ![0] bcast_S65536_S65536x1_0 (rowFactors g)))

/-- The group numbers as a column. -/
def segColumn (g : IVec S16x64 32) : IVec S65536x1 32 := broadcastInDim S65536x1 ![0] bcast_S65536_S65536x1_0 (segs g)

/-- The sums over the groups, by flattened group. -/
def sums (x : FVec Ideal S16x4096x1024 .f32) (g : IVec S16x64 32) : FVec Ideal S1024x1024 .f32 :=
  Host.scatterAdd scatter_S1024x1024_S65536x1_S65536x1024_1_0_0_1
    (broadcastInDim S1024x1024 ![] bcast_S_S1024x1024 (constant S_ .f32 0x00000000#32)) (segColumn g) (scaled x g)

/-- The reference's first result is the table of sums, reshaped. -/
theorem res_eq (m : (ℓ : Loc nD τ sig) → Buf (Elt Ideal) ℓ) (c : Dev nD) :
    Cert.ReferenceIdeal.Value.res_out0 m c
      = shapeCast _ (sums (m ((c.tc : Thread nD τ).loc main_arg0)) (m ((c.tc : Thread nD τ).loc main_arg1))) shapeCasts_S1024x1024_S16x64x1024 := by
  unfold Cert.ReferenceIdeal.Value.res_out0 Cert.ReferenceIdeal.Value.res_main_v31
  rfl

/-- Row `n`'s entry at column `h'` is added at row `n / 64`, column `h'`, of the table of sums. -/
theorem lands (g : IVec S16x64 32) (hg : ∀ i, g i = 64#32) (n : Fin 65536) (h' : Fin 1024) (R : Fin 1024) (h : Fin 1024) :
    scatter_S1024x1024_S65536x1_S65536x1024_1_0_0_1.resultIdx? (ix2 n h') (segColumn g) = some (ix2 R h)
      ↔ n.val / 64 = R.val ∧ h' = h := by
  have hn := n.isLt
  have s0 : scatter_S1024x1024_S65536x1_S65536x1024_1_0_0_1.start (ix2 n h') (segColumn g) 0 = ((n.val / 64 : ℕ) : ℤ) := by
    have hm : (0 : Fin S1024x1024.rank) ∈ scatter_S1024x1024_S65536x1_S65536x1024_1_0_0_1.scatterDimsToOperandDims := List.mem_singleton.2 rfl
    have e : scatter_S1024x1024_S65536x1_S65536x1024_1_0_0_1.start (ix2 n h') (segColumn g) 0
        = (segColumn g (ix2 n (0 : Fin 1))).toInt := by
      unfold ScatterDims.start
      rw [dif_pos hm]
      refine congrArg (fun i => (segColumn g i).toInt) (funext fun a => ?_)
      match a with
      | ⟨0, _⟩ => rfl
      | ⟨1, _⟩ => rfl
    have e2 : segColumn g (ix2 n (0 : Fin 1)) = BitVec.ofNat 32 (n.val / 64) := (bcCol _ _ n).trans (segs_at g hg n)
    rw [e, e2, StableHlo.Predicate.toInt_ofNat_small _ (by omega)]
  have s1 : scatter_S1024x1024_S65536x1_S65536x1024_1_0_0_1.start (ix2 n h') (segColumn g) 1 = 0 := rfl
  have w0 : scatter_S1024x1024_S65536x1_S65536x1024_1_0_0_1.window (ix2 n h') 0 = 0 := rfl
  have w1 : scatter_S1024x1024_S65536x1_S65536x1024_1_0_0_1.window (ix2 n h') 1 = h'.val := rfl
  rw [resultIdx?_ix2, s0, s1, w0, w1, Fin.ext_iff]
  omega

/-- A scaled row's entry. -/
theorem scaled_at (x : FVec Ideal S16x4096x1024 .f32) (g : IVec S16x64 32) (hg : ∀ i, g i = 64#32) (b : Fin 16) (p : Fin 4096)
    (n : Fin 65536) (hn : n.val = b.val * 4096 + p.val) (h : Fin 1024) :
    scaled x g (ix2 n h) = (x (ix3 b p h) : EReal) * inv64 := by
  have e1 : shapeCast S65536x1024 x shapeCasts_S16x4096x1024_S65536x1024 (ix2 n h) = x (ix3 b p h) := by
    refine shapeCast_apply x _ _ _ ?_
    rw [Shape.rowMajor_val_three, Shape.rowMajor_val_two]
    show (b.val * 4096 + p.val) * 1024 + h.val = n.val * 1024 + h.val
    rw [hn]
  have e2 : broadcastInDim S65536x1024 ![0, 1] bcast_S65536x1_S65536x1024_0_1 (broadcastInDim S65536x1 ![0] bcast_S65536_S65536x1_0 (rowFactors g))
      (ix2 n h) = inv64 := (bcRows _ _ _ n h).trans (rowFactors_at g hg n)
  exact congrArg₂ (fun a b : EReal => a * b) e1 e2

/-- Row `64 g + r` of a batch. -/
def rowOf (g r : Fin 64) : Fin 4096 := ⟨64 * g.val + r.val, by have := g.isLt; have := r.isLt; omega⟩

/-- An accumulating scatter of rows of which sixty-four in a row land at each row of the operand: an entry of the result. -/
theorem scatterRows_at {N R C w : ℕ} {φ : FTy} (d : ScatterDims (shape2 R C) (shape2 N 1) (shape2 N C)) (x : FVec Ideal (shape2 R C) φ)
    (idx : IVec (shape2 N 1) w) (upd : FVec Ideal (shape2 N C) φ) (r : Fin R) (c : Fin C) (hN : 64 * r.val + 64 ≤ N)
    (hl : ∀ (n : Fin N) (c' : Fin C), d.resultIdx? (ix2 n c') idx = some (ix2 r c) ↔ n.val / 64 = r.val ∧ c' = c) :
    (Host.scatterAdd d x idx upd (ix2 r c) : EReal)
      = (x (ix2 r c) : EReal) + ∑ t : Fin 64, (upd (ix2 ⟨64 * r.val + t.val, by have := t.isLt; omega⟩ c) : EReal) := by
  show (x (ix2 r c) : EReal) + ∑ k ∈ Finset.univ.filter (fun k => d.resultIdx? k idx = some (ix2 r c)), (upd k : EReal) = _
  refine congrArg ((x (ix2 r c) : EReal) + ·) ?_
  symm
  refine Finset.sum_bij (fun t _ => ix2 (⟨64 * r.val + t.val, by have := t.isLt; omega⟩ : Fin N) c) (fun t _ => ?_) (fun t _ t' _ e => ?_)
    (fun k hk => ?_) (fun t _ => rfl)
  · have ht := t.isLt
    exact Finset.mem_filter.2 ⟨Finset.mem_univ _, (hl _ _).2 ⟨by show (64 * r.val + t.val) / 64 = r.val; omega, rfl⟩⟩
  · have e0 : 64 * r.val + t.val = 64 * r.val + t'.val := congrArg Fin.val (congrFun e 0)
    exact Fin.ext (by omega)
  · have hk' := (Finset.mem_filter.1 hk).2
    rw [eq_ix2 k] at hk'
    obtain ⟨h1, h2⟩ := (hl (k 0) (k 1)).1 hk'
    refine ⟨⟨(k 0).val % 64, by omega⟩, Finset.mem_univ _, ?_⟩
    refine Eq.trans ?_ (eq_ix2 k).symm
    exact congrArg₂ ix2 (Fin.ext (by show 64 * r.val + (k 0).val % 64 = (k 0).val; omega)) h2.symm

/-- An entry of the table of sums: the scaled rows of the group, added up. -/
theorem sums_at (x : FVec Ideal S16x4096x1024 .f32) (g : IVec S16x64 32) (hg : ∀ i, g i = 64#32) (b : Fin 16) (j : Fin 64)
    (R : Fin 1024) (hR : R.val = b.val * 64 + j.val) (h : Fin 1024) :
    (sums x g (ix2 R h) : EReal) = ∑ r : Fin 64, (x (ix3 b (rowOf j r) h) : EReal) * inv64 := by
  have hRlt := R.isLt
  have z : (broadcastInDim S1024x1024 ![] bcast_S_S1024x1024 (constant (F := Ideal) S_ .f32 0x00000000#32) (ix2 R h) : EReal) = 0 :=
    (bc0 _ _ _).trans Ideal.ofBits_zero_f32
  unfold sums
  rw [scatterRows_at (N := 65536) (R := 1024) (C := 1024) _ _ (segColumn g) (scaled x g) R h (by omega) fun n c' => lands g hg n c' R h, z, zero_add]
  refine Finset.sum_congr rfl fun r _ => ?_
  have hr := r.isLt
  exact scaled_at x g hg b (rowOf j r) _ (by show 64 * R.val + r.val = b.val * 4096 + (64 * j.val + r.val); omega) h

/-- The features and the group sizes a device starts from. -/
def feat (m : (ℓ : Loc nD τ sig) → Buf (Elt Ideal) ℓ) (c : Dev nD) : FVec Ideal S16x4096x1024 .f32 := m ((c.tc : Thread nD τ).loc main_arg0)
@[inherit_doc feat]
def sizes (m : (ℓ : Loc nD τ sig) → Buf (Elt Ideal) ℓ) (c : Dev nD) : IVec S16x64 32 := m ((c.tc : Thread nD τ).loc main_arg1)

/-- What the first result of either program holds at `(b, j, h)`, from the features `x`. -/
def meanAt (x : FVec Ideal S16x4096x1024 .f32) (b : Fin 16) (j : Fin 64) (h : Fin 1024) : EReal :=
  ∑ r : Fin 64, (x (ix3 b (rowOf j r) h) : EReal) * inv64

/-- The reference's first result, where every group has sixty-four rows. -/
theorem res_at (m : (ℓ : Loc nD τ sig) → Buf (Elt Ideal) ℓ) (c : Dev nD) (hg : ∀ i, sizes m c i = 64#32) :
    Cert.ReferenceIdeal.Value.res_out0 m c = fun y : S16x64x1024.Idx => meanAt (feat m c) (y 0) (y 1) (y 2) := by
  rw [res_eq m c]
  funext y
  have h0 : (y 0).val < 16 := (y 0).isLt
  have h1 : (y 1).val < 64 := (y 1).isLt
  refine Eq.trans ?_ (sums_at (feat m c) (sizes m c) hg (y 0) (y 1) ⟨(y 0).val * 64 + (y 1).val, by omega⟩ rfl (y 2))
  refine shapeCast_apply _ _ _ _ ?_
  rw [Shape.rowMajor_val_three, Shape.rowMajor_val_two]
  rfl

end Cert.Proof.ReferenceIdeal

end
-- ==== Proof.Value.lean ====
/-
  The kernel's results over the extended reals, where every group has sixty-four rows: the factor of every group is the reciprocal
  of sixty-four, and the four bracketed sums of sixteen rows, added up and multiplied by the factor at the end, are the sum of the
  sixty-four rows each multiplied by the factor; then both runs together.
-/
module

public import proofs.«01_k».proof.Defs
public import proofs.«01_k».proof.Proof.Host
public import proofs.«01_k».proof.Proof.Reference

@[expose] public section

noncomputable section

namespace Cert.Proof.KernelIdeal

open Cert.KernelIdeal Cert.KernelIdeal.Gen

open Idealize.ShloMosaic Idealize.SL.Sem
open Idealize.ShloMosaic.Routing Idealize.ShloMosaic.ValueIdx
open Idealize.ShloMosaic.StableHlo (after)
open Cert.Proof.ReferenceIdeal (inv64 meanAt)

/-! ## Sums of extended reals -/

/-- A product with the reciprocal of sixty-four distributes over a sum. -/
theorem sum_mul_inv64 {ι : Type} (s : Finset ι) (f : ι → EReal) : (∑ i ∈ s, f i) * inv64 = ∑ i ∈ s, f i * inv64 := by
  have h0 : (0 : EReal) ≤ inv64 := EReal.coe_nonneg.mpr (by norm_num)
  have h1 : inv64 ≠ ⊤ := EReal.coe_ne_top _
  exact map_sum (AddMonoidHom.mk ⟨fun x : EReal => x * inv64, zero_mul _⟩ fun x y => EReal.right_distrib_of_nonneg_of_ne_top h0 h1 x y) f s

/-- The bracketed sum of sixteen extended reals is their sum. -/
theorem tree_sum (v : Fin 16 → EReal) : tree (F := Ideal) v = ∑ r : Fin 16, v r := by
  have e : ∑ r : Fin 16, v r = ∑ r : Fin (8 + 8), v r := rfl
  rw [e, Fin.sum_univ_add, Fin.sum_univ_eight, Fin.sum_univ_eight]
  show ((((v 0 + v 1) + (v 2 + v 3)) + ((v 4 + v 5) + (v 6 + v 7))) + (((v 8 + v 9) + (v 10 + v 11)) + ((v 12 + v 13) + (v 14 + v 15))) : EReal)
    = (v 0 + v 1 + v 2 + v 3 + v 4 + v 5 + v 6 + v 7) + (v 8 + v 9 + v 10 + v 11 + v 12 + v 13 + v 14 + v 15)
  abel

/-- A sum over sixty-four rows, sixteen at a time. -/
theorem sum_blocks (f : ℕ → EReal) :
    ∑ r : Fin 64, f r.val = ((∑ r : Fin 16, f r.val + ∑ r : Fin 16, f (16 + r.val)) + ∑ r : Fin 16, f (32 + r.val)) + ∑ r : Fin 16, f (48 + r.val) := by
  have e : ∑ r : Fin 64, f r.val = ∑ r : Fin (16 + 16 + 16 + 16), f r.val := rfl
  rw [e, Fin.sum_univ_add, Fin.sum_univ_add, Fin.sum_univ_add]
  rfl

/-- Four bracketed sums of sixteen rows, added up and multiplied by the reciprocal at the end. -/
theorem outRow_sum (x : ℕ → Fin 1024 → EReal) (c : ℕ → Fin 16 → EReal) (R : ℕ) (hc : ∀ j, c R j = inv64) (h : Fin 1024) :
    outRow (F := Ideal) x c R h = ∑ r : Fin 64, x (64 * R + r.val) h * inv64 := by
  have e : outRow (F := Ideal) x c R h
      = (((tree (F := Ideal) (fun r => x (64 * R + r.val) h) + tree (F := Ideal) (fun r => x (64 * R + 16 + r.val) h) : EReal)
          + tree (F := Ideal) (fun r => x (64 * R + 32 + r.val) h) : EReal)
        + tree (F := Ideal) (fun r => x (64 * R + 48 + r.val) h) : EReal) * c R (Fin.ofNat 16 h.val) := rfl
  rw [e, hc, tree_sum, tree_sum, tree_sum, tree_sum, ← sum_mul_inv64, sum_blocks fun n => x (64 * R + n) h]
  simp only [Nat.add_assoc]

/-! ## What the call reads -/

variable (m : (ℓ : Loc nD τ sig) → Buf (Elt Ideal) ℓ)

/-- The features and the group sizes a device starts from. -/
def input (d : Dev nD) : FVec Ideal S16x4096x1024 .f32 := m ((d.tc : Thread nD τ).loc main_arg0)
@[inherit_doc input]
def sizes (d : Dev nD) : IVec S16x64 32 := m ((d.tc : Thread nD τ).loc main_arg1)

theorem feats_eq (d : Dev nD) : feats m d = shapeCast S65536x1024 (input m d) shapeCasts_S16x4096x1024_S65536x1024 := by
  unfold feats V1
  after_results
  rfl

theorem factors_eq (d : Dev nD) :
    factors m d = broadcastInDim S1024x16 ![0, 1] bcast_S1024x1_S1024x16_0_1 (broadcastInDim S1024x1 ![0] bcast_S1024_S1024x1_0
      (Host.divf (broadcastInDim S1024 ![] bcast_S_S1024 (constant S_ .f32 0x3F800000#32))
        (sitofp .f32 (shapeCast S1024 (sizes m d) shapeCasts_S16x64_S1024)))) := by
  unfold factors V1
  after_results
  rfl

/-- Row `4096 b + p` of the flattened features is row `p` of batch `b`. -/
theorem feats_at (d : Dev nD) (b : Fin 16) (p : Fin 4096) (n : Fin 65536) (hn : n.val = b.val * 4096 + p.val) (h : Fin 1024) :
    feats m d (ix2 n h) = input m d (ix3 b p h) := by
  rw [feats_eq]
  refine shapeCast_apply _ _ _ _ ?_
  rw [Shape.rowMajor_val_three, Shape.rowMajor_val_two]
  show (b.val * 4096 + p.val) * 1024 + h.val = n.val * 1024 + h.val
  rw [hn]

/-- One divided by the signed value of a word of sixty-four. -/
theorem div_inv64 : Ideal.div (Ideal.ofBits .f32 0x3F800000#32) (((64#32 : BitVec 32).toInt : ℝ) : EReal) = inv64 := by
  have h : ((64#32 : BitVec 32).toInt : ℝ) = 64 := by
    have : (64#32 : BitVec 32).toInt = 64 := by decide
    rw [this]; norm_num
  rw [Ideal.ofBits_one_f32, h, Ideal.div_coe (by norm_num), one_mul]
  rfl

/-- Every factor is the reciprocal of sixty-four. -/
theorem factors_at (d : Dev nD) (hg : ∀ i, sizes m d i = 64#32) (k : Fin 1024) (j : Fin 16) : factors m d (ix2 k j) = inv64 := by
  have hk := k.isLt
  have hb : k.val / 64 < 16 := by omega
  have hp : k.val % 64 < 64 := by omega
  rw [factors_eq]
  refine (bcRows _ _ _ k j).trans ?_
  have e : shapeCast S1024 (sizes m d) shapeCasts_S16x64_S1024 (ix1 k) = 64#32 :=
    (cast21 _ shapeCasts_S16x64_S1024 (⟨_, hb⟩ : Fin 16) (⟨_, hp⟩ : Fin 64) k
      (by show k.val = k.val / 64 * 64 + k.val % 64; omega)).trans (hg _)
  exact (congrArg (fun w : BitVec 32 => Ideal.div (Ideal.ofBits .f32 0x3F800000#32) ((w.toInt : ℝ) : EReal)) e).trans div_inv64

/-- What the call leaves, by flattened group. -/
theorem outVal_at (d : Dev nD) (hg : ∀ i, sizes m d i = 64#32) (b : Fin 16) (j : Fin 64) (R : Fin 1024) (hR : R.val = b.val * 64 + j.val)
    (h : Fin 1024) : outVal m d (ix2 R h) = meanAt (input m d) b j h := by
  have hb := b.isLt
  have hj := j.isLt
  have hRlt := R.isLt
  refine (outRow_sum (fun n h => feats m d (ix2 (Fin.ofNat 65536 n) h)) (fun n j => factors m d (ix2 (Fin.ofNat 1024 n) j)) R.val
    (fun _ => factors_at m d hg _ _) h).trans ?_
  refine Finset.sum_congr rfl fun r _ => congrArg (fun z : EReal => z * inv64) ?_
  have hr := r.isLt
  exact feats_at m d b (Cert.Proof.ReferenceIdeal.rowOf j r) _ (by
    show (64 * R.val + r.val) % 65536 = b.val * 4096 + (64 * j.val + r.val)
    omega) h

/-! ## The results -/

theorem V3_res0 (d : Dev nD) : V3 m d v8' = shapeCast S16x64x1024 (outVal m d) shapeCasts_S1024x1024_S16x64x1024 := by
  unfold V3
  after_results
  rw [show V2 m d v7' = outVal m d from Function.update_self _ _ _]
  rfl

theorem V3_res1 (d : Dev nD) : V3 m d v9' = (broadcastInDim S16 ![] bcast_S_S16 (constantI S_ 32 64#32) : IVec S16 32) := by
  unfold V3
  after_results

/-- The first result, where every group has sixty-four rows. -/
theorem res_at (d : Dev nD) (hg : ∀ i, sizes m d i = 64#32) :
    V3 m d v8' = fun y : S16x64x1024.Idx => meanAt (input m d) (y 0) (y 1) (y 2) := by
  rw [V3_res0 m d]
  funext y
  have h0 : (y 0).val < 16 := (y 0).isLt
  have h1 : (y 1).val < 64 := (y 1).isLt
  refine Eq.trans ?_ (outVal_at m d hg (y 0) (y 1) ⟨(y 0).val * 64 + (y 1).val, by omega⟩ rfl (y 2))
  refine shapeCast_apply _ _ _ _ ?_
  rw [Shape.rowMajor_val_three, Shape.rowMajor_val_two]
  rfl

/-! ## The precondition, and both runs -/

instance preFacts : Cert.Pre_groups_uniform.Facts := ⟨by decide, by decide, by decide⟩

/-- Where the precondition holds, every group size is sixty-four. -/
theorem sizes_eq (hpre : Cert.Pre_KernelIdeal_groups_uniform m) (d : Dev nD) (i : S16x64.Idx) : sizes m d i = 64#32 := by
  haveI : Subsingleton Cert.Pre_groups_uniform.S_.Idx := ⟨fun a b => funext fun k => k.elim0⟩
  have h := Host.reduce_andi_all _ _ _ _ (fun k => k.elim0) (congrFun (hpre d) _) i
  exact StableHlo.Predicate.cmpi_eq_iff.mp h

end Cert.Proof.KernelIdeal

namespace Cert.Proof

open Idealize.ShloMosaic Idealize.SL.Sem

/-- Both programs run and end with equal results, where every group has sixty-four rows. -/
theorem algebraic : Cert.algebraic_KernelIdeal_ReferenceIdeal_pre_groups_uniform := by
  intro m g m' g' hpre hagree
  have hg := KernelIdeal.sizes_eq m hpre
  refine ⟨fun c => KernelIdeal.V3 m c KernelIdeal.v8', fun c => KernelIdeal.V3 m c KernelIdeal.v9', ?_, ?_⟩
  · exact (θ_run _ _ _).mono (fun _ h c => ⟨h.1 c 2, h.1 c 3, (h.1 c 0).trans (KernelIdeal.V3_arg0 m c), (h.1 c 1).trans (KernelIdeal.V3_arg1 m c)⟩)
      (KernelIdeal.run_main m g)
  · refine (θ_run _ _ _).mono (fun _ h c => ?_) (Cert.ReferenceIdeal.Value.run m' g')
    have ex : ReferenceIdeal.feat m' c = KernelIdeal.input m c := (hagree c).1
    have es : ReferenceIdeal.sizes m' c = KernelIdeal.sizes m c := (hagree c).2
    obtain ⟨h0, h1, h2, h3⟩ := h c
    refine ⟨h0.trans ?_, h1.trans ?_, h2, h3⟩
    · refine (ReferenceIdeal.res_at m' c fun i => (congrFun es i).trans (hg c i)).trans ?_
      rw [ex]
      exact (KernelIdeal.res_at m c (hg c)).symm
    · exact (KernelIdeal.V3_res1 m c).symm

end Cert.Proof

end
-- ==== Proof.lean ====
/-
  The certificate: each program runs from every memory, leaves its arguments as they were and ends with every semaphore at zero; and
  the kernel and the reference, over the extended reals, end with equal results where every group has sixty-four rows.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Host
public import proofs.«01_k».proof.Proof.Printed.Host
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were and ends with every semaphore at zero. -/
theorem reference_frame : Cert.quiescent_ReferenceIdeal := by
  intro m g _
  exact (θ_run _ _ _).mono (fun r h => ⟨fun c => ⟨(h c).2.2.1, (h c).2.2.2⟩, sem_eq_zero_of_no_sems (by decide) r.2⟩)
    (Cert.ReferenceIdeal.Value.run m g)

/-- Everything the certificate claims. -/
theorem claim : Cert.Claim :=
  ⟨Cert.Kernel.Gen.facts, Cert.KernelIdeal.Gen.facts, Cert.ReferenceIdeal.Gen.facts, KernelIdeal.preFacts,
    fun m g _ => Kernel.run_frame m g, fun m g _ => KernelIdeal.run_frame m g, fun m g _ => KernelIdeal.run_frame m g,
    reference_frame, fun m g _ => reference_frame m g trivial, trivial, algebraic⟩

end Cert.Proof

end
